-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x128x720 : Shape := ⟨3, ![3, 128, 720]⟩
abbrev S1440x16x5120 : Shape := ⟨3, ![1440, 16, 5120]⟩
abbrev S15x5120 : Shape := ⟨2, ![15, 5120]⟩
abbrev S3x720x128 : Shape := ⟨3, ![3, 720, 128]⟩
abbrev S3x128x5120 : Shape := ⟨3, ![3, 128, 5120]⟩
abbrev S288x16x512 : Shape := ⟨3, ![288, 16, 512]⟩
abbrev S15x512 : Shape := ⟨2, ![15, 512]⟩
abbrev S3x128x512 : Shape := ⟨3, ![3, 128, 512]⟩
abbrev S64x1536 : Shape := ⟨2, ![64, 1536]⟩
abbrev S5x256x4608 : Shape := ⟨3, ![5, 256, 4608]⟩
abbrev S1x720x128 : Shape := ⟨3, ![1, 720, 128]⟩
abbrev S720x128 : Shape := ⟨2, ![720, 128]⟩
abbrev S48x128 : Shape := ⟨2, ![48, 128]⟩
abbrev S768x128 : Shape := ⟨2, ![768, 128]⟩
abbrev S128x768 : Shape := ⟨2, ![128, 768]⟩
abbrev S128x128 : Shape := ⟨2, ![128, 128]⟩
abbrev S128x128x1 : Shape := ⟨3, ![128, 128, 1]⟩
abbrev S64x128 : Shape := ⟨2, ![64, 128]⟩
abbrev S64x128x1 : Shape := ⟨3, ![64, 128, 1]⟩
abbrev S1x128x128 : Shape := ⟨3, ![1, 128, 128]⟩
abbrev S96x16x512 : Shape := ⟨3, ![96, 16, 512]⟩
abbrev S1536x512 : Shape := ⟨2, ![1536, 512]⟩
abbrev S1x256x1536 : Shape := ⟨3, ![1, 256, 1536]⟩
abbrev S256x1536 : Shape := ⟨2, ![256, 1536]⟩
abbrev S256x512 : Shape := ⟨2, ![256, 512]⟩
abbrev S128x512 : Shape := ⟨2, ![128, 512]⟩
abbrev S1x512 : Shape := ⟨2, ![1, 512]⟩
abbrev S1x128x512 : Shape := ⟨3, ![1, 128, 512]⟩

abbrev nBuf : Space → Nat
  | .hbm => 5
  | .vmem => 10
  | .smem => 0
  | _ => 0

abbrev bufTy : (tb : Table) → Fin (tcTables nBuf tb) → BufTy
  | .hbm, ⟨0, _⟩ => ⟨S3x128x720, .i8⟩
  | .hbm, ⟨1, _⟩ => ⟨S1440x16x5120, .i8⟩
  | .hbm, ⟨2, _⟩ => ⟨S15x5120, .f32⟩
  | .hbm, ⟨3, _⟩ => ⟨S3x720x128, .i8⟩
  | .hbm, ⟨4, _⟩ => ⟨S3x128x5120, .bf16⟩
  | .local _ .vmem, ⟨0, _⟩ => ⟨S3x720x128, .i8⟩
  | .local _ .vmem, ⟨1, _⟩ => ⟨S288x16x512, .i8⟩
  | .local _ .vmem, ⟨2, _⟩ => ⟨S288x16x512, .i8⟩
  | .local _ .vmem, ⟨3, _⟩ => ⟨S15x512, .f32⟩
  | .local _ .vmem, ⟨4, _⟩ => ⟨S15x512, .f32⟩
  | .local _ .vmem, ⟨5, _⟩ => ⟨S3x128x512, .bf16⟩
  | .local _ .vmem, ⟨6, _⟩ => ⟨S3x128x512, .bf16⟩
  | .local _ .vmem, ⟨7, _⟩ => ⟨S64x1536, .i32⟩
  | .local _ .vmem, ⟨8, _⟩ => ⟨S5x256x4608, .bf16⟩
  | .local _ .vmem, ⟨9, _⟩ => ⟨S3x128x512, .f32⟩
  | _, _ => ⟨S3x128x720, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![10, 5], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_mult1 (i : grid0.Coords) : BitVec 32 :=
  let arg1 : BitVec 32 := BitVec.ofNat 32 (i 1).val
  let c288_i32 : BitVec 32 := 288#32
  let v141 : BitVec 32 := Scalar.muli arg1 c288_i32
  let c0_i32_77 : BitVec 32 := 0#32
  let v142 : BitVec 32 := Scalar.addi v141 c0_i32_77
  let c0_i32_78 : BitVec 32 := 0#32
  let v144 : BitVec 1 := Scalar.cmpi .sgt v142 c0_i32_78
  let v145 : BitVec 32 := Scalar.extui v144
  let c0_i32_79 : BitVec 32 := 0#32
  let v146 : BitVec 1 := Scalar.cmpi .slt v142 c0_i32_79
  let v147 : BitVec 32 := Scalar.extui v146
  let v148 : BitVec 32 := Scalar.subi v145 v147
  let c128_i32 : BitVec 32 := 128#32
  let c0_i32_80 : BitVec 32 := 0#32
  let v149 : BitVec 1 := Scalar.cmpi .sgt c128_i32 c0_i32_80
  let v150 : BitVec 32 := Scalar.extui v149
  let c0_i32_81 : BitVec 32 := 0#32
  let v151 : BitVec 1 := Scalar.cmpi .slt c128_i32 c0_i32_81
  let v152 : BitVec 32 := Scalar.extui v151
  let v153 : BitVec 32 := Scalar.subi v150 v152
  let v154 : BitVec 1 := Scalar.cmpi .ne v148 v153
  let v155 : BitVec 32 := Scalar.remsi v142 c128_i32
  let c0_i32_82 : BitVec 32 := 0#32
  let v156 : BitVec 1 := Scalar.cmpi .ne v155 c0_i32_82
  let v157 : BitVec 1 := Scalar.andi v154 v156
  let v143 : BitVec 32 := Scalar.divsi v142 c128_i32
  let c1_i32_83 : BitVec 32 := 1#32
  let v158 : BitVec 32 := Scalar.subi v143 c1_i32_83
  let v159 : BitVec 32 := Scalar.select v157 v158 v143
  let c128_i32_84 : BitVec 32 := 128#32
  let v160 : BitVec 32 := Scalar.muli v159 c128_i32_84
  v160
def k0_off1 (i : grid0.Coords) (c0_i32_77 : BitVec 32) : Fin 2 → Nat :=
  let c0_85 : Index := 0#32
  let arg1 : BitVec 32 := BitVec.ofNat 32 (i 1).val
  let c288_i32 : BitVec 32 := 288#32
  let v141 : BitVec 32 := Scalar.muli arg1 c288_i32
  let v142 : BitVec 32 := Scalar.addi v141 c0_i32_77
  let c0_i32_78 : BitVec 32 := 0#32
  let v144 : BitVec 1 := Scalar.cmpi .sgt v142 c0_i32_78
  let v145 : BitVec 32 := Scalar.extui v144
  let c0_i32_79 : BitVec 32 := 0#32
  let v146 : BitVec 1 := Scalar.cmpi .slt v142 c0_i32_79
  let v147 : BitVec 32 := Scalar.extui v146
  let v148 : BitVec 32 := Scalar.subi v145 v147
  let c128_i32 : BitVec 32 := 128#32
  let c0_i32_80 : BitVec 32 := 0#32
  let v149 : BitVec 1 := Scalar.cmpi .sgt c128_i32 c0_i32_80
  let v150 : BitVec 32 := Scalar.extui v149
  let c0_i32_81 : BitVec 32 := 0#32
  let v151 : BitVec 1 := Scalar.cmpi .slt c128_i32 c0_i32_81
  let v152 : BitVec 32 := Scalar.extui v151
  let v153 : BitVec 32 := Scalar.subi v150 v152
  let v154 : BitVec 1 := Scalar.cmpi .ne v148 v153
  let v155 : BitVec 32 := Scalar.remsi v142 c128_i32
  let c0_i32_82 : BitVec 32 := 0#32
  let v156 : BitVec 1 := Scalar.cmpi .ne v155 c0_i32_82
  let v157 : BitVec 1 := Scalar.andi v154 v156
  let v143 : BitVec 32 := Scalar.divsi v142 c128_i32
  let c1_i32_83 : BitVec 32 := 1#32
  let v158 : BitVec 32 := Scalar.subi v143 c1_i32_83
  let v159 : BitVec 32 := Scalar.select v157 v158 v143
  let c128_i32_84 : BitVec 32 := 128#32
  let v160 : BitVec 32 := Scalar.muli v159 c128_i32_84
  let v161 : BitVec 32 := v160
  let v162 : Index := Scalar.indexCast v161
  ![0, v162.toNat]
def k0_off2 (i : grid0.Coords) : Fin 3 → Nat :=
  let arg1 : BitVec 32 := BitVec.ofNat 32 (i 1).val
  let v212 : Index := Scalar.indexCast arg1
  let c0_104 : Index := 0#32
  let c0_105 : Index := 0#32
  ![v212.toNat, 0, 0]
def k0_off3 (i : grid0.Coords) : Fin 3 → Nat :=
  let arg1 : BitVec 32 := BitVec.ofNat 32 (i 1).val
  let v216 : Index := Scalar.indexCast arg1
  let c128 : Index := 128#32
  let c0_106 : Index := 0#32
  ![v216.toNat, 128, 0]
def k0_mult2 (i : grid0.Coords) : BitVec 32 :=
  let arg1 : BitVec 32 := BitVec.ofNat 32 (i 1).val
  let c288_i32_107 : BitVec 32 := 288#32
  let v220 : BitVec 32 := Scalar.muli arg1 c288_i32_107
  let c8_i32 : BitVec 32 := 8#32
  let v221 : BitVec 32 := Scalar.addi v220 c8_i32
  let c0_i32_109 : BitVec 32 := 0#32
  let v223 : BitVec 1 := Scalar.cmpi .sgt v221 c0_i32_109
  let v224 : BitVec 32 := Scalar.extui v223
  let c0_i32_110 : BitVec 32 := 0#32
  let v225 : BitVec 1 := Scalar.cmpi .slt v221 c0_i32_110
  let v226 : BitVec 32 := Scalar.extui v225
  let v227 : BitVec 32 := Scalar.subi v224 v226
  let c128_i32_108 : BitVec 32 := 128#32
  let c0_i32_111 : BitVec 32 := 0#32
  let v228 : BitVec 1 := Scalar.cmpi .sgt c128_i32_108 c0_i32_111
  let v229 : BitVec 32 := Scalar.extui v228
  let c0_i32_112 : BitVec 32 := 0#32
  let v230 : BitVec 1 := Scalar.cmpi .slt c128_i32_108 c0_i32_112
  let v231 : BitVec 32 := Scalar.extui v230
  let v232 : BitVec 32 := Scalar.subi v229 v231
  let v233 : BitVec 1 := Scalar.cmpi .ne v227 v232
  let v234 : BitVec 32 := Scalar.remsi v221 c128_i32_108
  let c0_i32_113 : BitVec 32 := 0#32
  let v235 : BitVec 1 := Scalar.cmpi .ne v234 c0_i32_113
  let v236 : BitVec 1 := Scalar.andi v233 v235
  let v222 : BitVec 32 := Scalar.divsi v221 c128_i32_108
  let c1_i32_114 : BitVec 32 := 1#32
  let v237 : BitVec 32 := Scalar.subi v222 c1_i32_114
  let v238 : BitVec 32 := Scalar.select v236 v237 v222
  let c128_i32_115 : BitVec 32 := 128#32
  let v239 : BitVec 32 := Scalar.muli v238 c128_i32_115
  v239
def k0_off4 (i : grid0.Coords) : Fin 3 → Nat :=
  let arg1 : BitVec 32 := BitVec.ofNat 32 (i 1).val
  let v291 : Index := Scalar.indexCast arg1
  let c0_138 : Index := 0#32
  let c128_139 : Index := 128#32
  ![v291.toNat, 0, 128]
def k0_off5 (i : grid0.Coords) : Fin 3 → Nat :=
  let arg1 : BitVec 32 := BitVec.ofNat 32 (i 1).val
  let v295 : Index := Scalar.indexCast arg1
  let c128_140 : Index := 128#32
  let c128_141 : Index := 128#32
  ![v295.toNat, 128, 128]
def k0_mult3 (i : grid0.Coords) : BitVec 32 :=
  let arg1 : BitVec 32 := BitVec.ofNat 32 (i 1).val
  let c288_i32_142 : BitVec 32 := 288#32
  let v299 : BitVec 32 := Scalar.muli arg1 c288_i32_142
  let c16_i32 : BitVec 32 := 16#32
  let v300 : BitVec 32 := Scalar.addi v299 c16_i32
  let c0_i32_144 : BitVec 32 := 0#32
  let v302 : BitVec 1 := Scalar.cmpi .sgt v300 c0_i32_144
  let v303 : BitVec 32 := Scalar.extui v302
  let c0_i32_145 : BitVec 32 := 0#32
  let v304 : BitVec 1 := Scalar.cmpi .slt v300 c0_i32_145
  let v305 : BitVec 32 := Scalar.extui v304
  let v306 : BitVec 32 := Scalar.subi v303 v305
  let c128_i32_143 : BitVec 32 := 128#32
  let c0_i32_146 : BitVec 32 := 0#32
  let v307 : BitVec 1 := Scalar.cmpi .sgt c128_i32_143 c0_i32_146
  let v308 : BitVec 32 := Scalar.extui v307
  let c0_i32_147 : BitVec 32 := 0#32
  let v309 : BitVec 1 := Scalar.cmpi .slt c128_i32_143 c0_i32_147
  let v310 : BitVec 32 := Scalar.extui v309
  let v311 : BitVec 32 := Scalar.subi v308 v310
  let v312 : BitVec 1 := Scalar.cmpi .ne v306 v311
  let v313 : BitVec 32 := Scalar.remsi v300 c128_i32_143
  let c0_i32_148 : BitVec 32 := 0#32
  let v314 : BitVec 1 := Scalar.cmpi .ne v313 c0_i32_148
  let v315 : BitVec 1 := Scalar.andi v312 v314
  let v301 : BitVec 32 := Scalar.divsi v300 c128_i32_143
  let c1_i32_149 : BitVec 32 := 1#32
  let v316 : BitVec 32 := Scalar.subi v301 c1_i32_149
  let v317 : BitVec 32 := Scalar.select v315 v316 v301
  let c128_i32_150 : BitVec 32 := 128#32
  let v318 : BitVec 32 := Scalar.muli v317 c128_i32_150
  v318
def k0_off6 (i : grid0.Coords) : Fin 3 → Nat :=
  let arg1 : BitVec 32 := BitVec.ofNat 32 (i 1).val
  let v370 : Index := Scalar.indexCast arg1
  let c0_173 : Index := 0#32
  let c256 : Index := 256#32
  ![v370.toNat, 0, 256]
def k0_off7 (i : grid0.Coords) : Fin 3 → Nat :=
  let arg1 : BitVec 32 := BitVec.ofNat 32 (i 1).val
  let v374 : Index := Scalar.indexCast arg1
  let c128_174 : Index := 128#32
  let c256_175 : Index := 256#32
  ![v374.toNat, 128, 256]
def k0_mult4 (i : grid0.Coords) : BitVec 32 :=
  let arg1 : BitVec 32 := BitVec.ofNat 32 (i 1).val
  let c288_i32_176 : BitVec 32 := 288#32
  let v378 : BitVec 32 := Scalar.muli arg1 c288_i32_176
  let c24_i32 : BitVec 32 := 24#32
  let v379 : BitVec 32 := Scalar.addi v378 c24_i32
  let c0_i32_178 : BitVec 32 := 0#32
  let v381 : BitVec 1 := Scalar.cmpi .sgt v379 c0_i32_178
  let v382 : BitVec 32 := Scalar.extui v381
  let c0_i32_179 : BitVec 32 := 0#32
  let v383 : BitVec 1 := Scalar.cmpi .slt v379 c0_i32_179
  let v384 : BitVec 32 := Scalar.extui v383
  let v385 : BitVec 32 := Scalar.subi v382 v384
  let c128_i32_177 : BitVec 32 := 128#32
  let c0_i32_180 : BitVec 32 := 0#32
  let v386 : BitVec 1 := Scalar.cmpi .sgt c128_i32_177 c0_i32_180
  let v387 : BitVec 32 := Scalar.extui v386
  let c0_i32_181 : BitVec 32 := 0#32
  let v388 : BitVec 1 := Scalar.cmpi .slt c128_i32_177 c0_i32_181
  let v389 : BitVec 32 := Scalar.extui v388
  let v390 : BitVec 32 := Scalar.subi v387 v389
  let v391 : BitVec 1 := Scalar.cmpi .ne v385 v390
  let v392 : BitVec 32 := Scalar.remsi v379 c128_i32_177
  let c0_i32_182 : BitVec 32 := 0#32
  let v393 : BitVec 1 := Scalar.cmpi .ne v392 c0_i32_182
  let v394 : BitVec 1 := Scalar.andi v391 v393
  let v380 : BitVec 32 := Scalar.divsi v379 c128_i32_177
  let c1_i32_183 : BitVec 32 := 1#32
  let v395 : BitVec 32 := Scalar.subi v380 c1_i32_183
  let v396 : BitVec 32 := Scalar.select v394 v395 v380
  let c128_i32_184 : BitVec 32 := 128#32
  let v397 : BitVec 32 := Scalar.muli v396 c128_i32_184
  v397
def k0_off8 (i : grid0.Coords) : Fin 3 → Nat :=
  let arg1 : BitVec 32 := BitVec.ofNat 32 (i 1).val
  let v449 : Index := Scalar.indexCast arg1
  let c0_207 : Index := 0#32
  let c384 : Index := 384#32
  ![v449.toNat, 0, 384]
def k0_off9 (i : grid0.Coords) : Fin 3 → Nat :=
  let arg1 : BitVec 32 := BitVec.ofNat 32 (i 1).val
  let v453 : Index := Scalar.indexCast arg1
  let c128_208 : Index := 128#32
  let c384_209 : Index := 384#32
  ![v453.toNat, 128, 384]
def k0_mult5 (i : grid0.Coords) : BitVec 32 :=
  let arg1 : BitVec 32 := BitVec.ofNat 32 (i 1).val
  let c288_i32_210 : BitVec 32 := 288#32
  let v457 : BitVec 32 := Scalar.muli arg1 c288_i32_210
  let c32_i32 : BitVec 32 := 32#32
  let v458 : BitVec 32 := Scalar.addi v457 c32_i32
  let c0_i32_212 : BitVec 32 := 0#32
  let v460 : BitVec 1 := Scalar.cmpi .sgt v458 c0_i32_212
  let v461 : BitVec 32 := Scalar.extui v460
  let c0_i32_213 : BitVec 32 := 0#32
  let v462 : BitVec 1 := Scalar.cmpi .slt v458 c0_i32_213
  let v463 : BitVec 32 := Scalar.extui v462
  let v464 : BitVec 32 := Scalar.subi v461 v463
  let c128_i32_211 : BitVec 32 := 128#32
  let c0_i32_214 : BitVec 32 := 0#32
  let v465 : BitVec 1 := Scalar.cmpi .sgt c128_i32_211 c0_i32_214
  let v466 : BitVec 32 := Scalar.extui v465
  let c0_i32_215 : BitVec 32 := 0#32
  let v467 : BitVec 1 := Scalar.cmpi .slt c128_i32_211 c0_i32_215
  let v468 : BitVec 32 := Scalar.extui v467
  let v469 : BitVec 32 := Scalar.subi v466 v468
  let v470 : BitVec 1 := Scalar.cmpi .ne v464 v469
  let v471 : BitVec 32 := Scalar.remsi v458 c128_i32_211
  let c0_i32_216 : BitVec 32 := 0#32
  let v472 : BitVec 1 := Scalar.cmpi .ne v471 c0_i32_216
  let v473 : BitVec 1 := Scalar.andi v470 v472
  let v459 : BitVec 32 := Scalar.divsi v458 c128_i32_211
  let c1_i32_217 : BitVec 32 := 1#32
  let v474 : BitVec 32 := Scalar.subi v459 c1_i32_217
  let v475 : BitVec 32 := Scalar.select v473 v474 v459
  let c128_i32_218 : BitVec 32 := 128#32
  let v476 : BitVec 32 := Scalar.muli v475 c128_i32_218
  v476
def k0_off10 (i : grid0.Coords) : Fin 3 → Nat :=
  let arg1 : BitVec 32 := BitVec.ofNat 32 (i 1).val
  let v528 : Index := Scalar.indexCast arg1
  let c0_241 : Index := 0#32
  let c512 : Index := 512#32
  ![v528.toNat, 0, 512]
def k0_off11 (i : grid0.Coords) : Fin 3 → Nat :=
  let arg1 : BitVec 32 := BitVec.ofNat 32 (i 1).val
  let v532 : Index := Scalar.indexCast arg1
  let c128_242 : Index := 128#32
  let c512_243 : Index := 512#32
  ![v532.toNat, 128, 512]
def k0_mult6 (i : grid0.Coords) : BitVec 32 :=
  let arg1 : BitVec 32 := BitVec.ofNat 32 (i 1).val
  let c288_i32_244 : BitVec 32 := 288#32
  let v536 : BitVec 32 := Scalar.muli arg1 c288_i32_244
  let c40_i32 : BitVec 32 := 40#32
  let v537 : BitVec 32 := Scalar.addi v536 c40_i32
  let c0_i32_246 : BitVec 32 := 0#32
  let v539 : BitVec 1 := Scalar.cmpi .sgt v537 c0_i32_246
  let v540 : BitVec 32 := Scalar.extui v539
  let c0_i32_247 : BitVec 32 := 0#32
  let v541 : BitVec 1 := Scalar.cmpi .slt v537 c0_i32_247
  let v542 : BitVec 32 := Scalar.extui v541
  let v543 : BitVec 32 := Scalar.subi v540 v542
  let c128_i32_245 : BitVec 32 := 128#32
  let c0_i32_248 : BitVec 32 := 0#32
  let v544 : BitVec 1 := Scalar.cmpi .sgt c128_i32_245 c0_i32_248
  let v545 : BitVec 32 := Scalar.extui v544
  let c0_i32_249 : BitVec 32 := 0#32
  let v546 : BitVec 1 := Scalar.cmpi .slt c128_i32_245 c0_i32_249
  let v547 : BitVec 32 := Scalar.extui v546
  let v548 : BitVec 32 := Scalar.subi v545 v547
  let v549 : BitVec 1 := Scalar.cmpi .ne v543 v548
  let v550 : BitVec 32 := Scalar.remsi v537 c128_i32_245
  let c0_i32_250 : BitVec 32 := 0#32
  let v551 : BitVec 1 := Scalar.cmpi .ne v550 c0_i32_250
  let v552 : BitVec 1 := Scalar.andi v549 v551
  let v538 : BitVec 32 := Scalar.divsi v537 c128_i32_245
  let c1_i32_251 : BitVec 32 := 1#32
  let v553 : BitVec 32 := Scalar.subi v538 c1_i32_251
  let v554 : BitVec 32 := Scalar.select v552 v553 v538
  let c128_i32_252 : BitVec 32 := 128#32
  let v555 : BitVec 32 := Scalar.muli v554 c128_i32_252
  v555
def k0_off12 (i : grid0.Coords) : Fin 3 → Nat :=
  let arg1 : BitVec 32 := BitVec.ofNat 32 (i 1).val
  let v607 : Index := Scalar.indexCast arg1
  let c0_275 : Index := 0#32
  let c640 : Index := 640#32
  ![v607.toNat, 0, 640]
def k0_off13 (i : grid0.Coords) : Fin 3 → Nat :=
  let arg1 : BitVec 32 := BitVec.ofNat 32 (i 1).val
  let v611 : Index := Scalar.indexCast arg1
  let c128_276 : Index := 128#32
  let c640_277 : Index := 640#32
  ![v611.toNat, 128, 640]
def k0_mult7 (i : grid0.Coords) : BitVec 32 :=
  let arg1 : BitVec 32 := BitVec.ofNat 32 (i 1).val
  let c288_i32_278 : BitVec 32 := 288#32
  let v615 : BitVec 32 := Scalar.muli arg1 c288_i32_278
  let c48_i32 : BitVec 32 := 48#32
  let v616 : BitVec 32 := Scalar.addi v615 c48_i32
  let c0_i32_280 : BitVec 32 := 0#32
  let v618 : BitVec 1 := Scalar.cmpi .sgt v616 c0_i32_280
  let v619 : BitVec 32 := Scalar.extui v618
  let c0_i32_281 : BitVec 32 := 0#32
  let v620 : BitVec 1 := Scalar.cmpi .slt v616 c0_i32_281
  let v621 : BitVec 32 := Scalar.extui v620
  let v622 : BitVec 32 := Scalar.subi v619 v621
  let c128_i32_279 : BitVec 32 := 128#32
  let c0_i32_282 : BitVec 32 := 0#32
  let v623 : BitVec 1 := Scalar.cmpi .sgt c128_i32_279 c0_i32_282
  let v624 : BitVec 32 := Scalar.extui v623
  let c0_i32_283 : BitVec 32 := 0#32
  let v625 : BitVec 1 := Scalar.cmpi .slt c128_i32_279 c0_i32_283
  let v626 : BitVec 32 := Scalar.extui v625
  let v627 : BitVec 32 := Scalar.subi v624 v626
  let v628 : BitVec 1 := Scalar.cmpi .ne v622 v627
  let v629 : BitVec 32 := Scalar.remsi v616 c128_i32_279
  let c0_i32_284 : BitVec 32 := 0#32
  let v630 : BitVec 1 := Scalar.cmpi .ne v629 c0_i32_284
  let v631 : BitVec 1 := Scalar.andi v628 v630
  let v617 : BitVec 32 := Scalar.divsi v616 c128_i32_279
  let c1_i32_285 : BitVec 32 := 1#32
  let v632 : BitVec 32 := Scalar.subi v617 c1_i32_285
  let v633 : BitVec 32 := Scalar.select v631 v632 v617
  let c128_i32_286 : BitVec 32 := 128#32
  let v634 : BitVec 32 := Scalar.muli v633 c128_i32_286
  v634
def k0_off14 (i : grid0.Coords) : Fin 3 → Nat :=
  let arg1 : BitVec 32 := BitVec.ofNat 32 (i 1).val
  let v686 : Index := Scalar.indexCast arg1
  let c0_309 : Index := 0#32
  let c768 : Index := 768#32
  ![v686.toNat, 0, 768]
def k0_off15 (i : grid0.Coords) : Fin 3 → Nat :=
  let arg1 : BitVec 32 := BitVec.ofNat 32 (i 1).val
  let v690 : Index := Scalar.indexCast arg1
  let c128_310 : Index := 128#32
  let c768_311 : Index := 768#32
  ![v690.toNat, 128, 768]
def k0_mult8 (i : grid0.Coords) : BitVec 32 :=
  let arg1 : BitVec 32 := BitVec.ofNat 32 (i 1).val
  let c288_i32_312 : BitVec 32 := 288#32
  let v694 : BitVec 32 := Scalar.muli arg1 c288_i32_312
  let c56_i32 : BitVec 32 := 56#32
  let v695 : BitVec 32 := Scalar.addi v694 c56_i32
  let c0_i32_314 : BitVec 32 := 0#32
  let v697 : BitVec 1 := Scalar.cmpi .sgt v695 c0_i32_314
  let v698 : BitVec 32 := Scalar.extui v697
  let c0_i32_315 : BitVec 32 := 0#32
  let v699 : BitVec 1 := Scalar.cmpi .slt v695 c0_i32_315
  let v700 : BitVec 32 := Scalar.extui v699
  let v701 : BitVec 32 := Scalar.subi v698 v700
  let c128_i32_313 : BitVec 32 := 128#32
  let c0_i32_316 : BitVec 32 := 0#32
  let v702 : BitVec 1 := Scalar.cmpi .sgt c128_i32_313 c0_i32_316
  let v703 : BitVec 32 := Scalar.extui v702
  let c0_i32_317 : BitVec 32 := 0#32
  let v704 : BitVec 1 := Scalar.cmpi .slt c128_i32_313 c0_i32_317
  let v705 : BitVec 32 := Scalar.extui v704
  let v706 : BitVec 32 := Scalar.subi v703 v705
  let v707 : BitVec 1 := Scalar.cmpi .ne v701 v706
  let v708 : BitVec 32 := Scalar.remsi v695 c128_i32_313
  let c0_i32_318 : BitVec 32 := 0#32
  let v709 : BitVec 1 := Scalar.cmpi .ne v708 c0_i32_318
  let v710 : BitVec 1 := Scalar.andi v707 v709
  let v696 : BitVec 32 := Scalar.divsi v695 c128_i32_313
  let c1_i32_319 : BitVec 32 := 1#32
  let v711 : BitVec 32 := Scalar.subi v696 c1_i32_319
  let v712 : BitVec 32 := Scalar.select v710 v711 v696
  let c128_i32_320 : BitVec 32 := 128#32
  let v713 : BitVec 32 := Scalar.muli v712 c128_i32_320
  v713
def k0_off16 (i : grid0.Coords) : Fin 3 → Nat :=
  let arg1 : BitVec 32 := BitVec.ofNat 32 (i 1).val
  let v765 : Index := Scalar.indexCast arg1
  let c0_343 : Index := 0#32
  let c896 : Index := 896#32
  ![v765.toNat, 0, 896]
def k0_off17 (i : grid0.Coords) : Fin 3 → Nat :=
  let arg1 : BitVec 32 := BitVec.ofNat 32 (i 1).val
  let v769 : Index := Scalar.indexCast arg1
  let c128_344 : Index := 128#32
  let c896_345 : Index := 896#32
  ![v769.toNat, 128, 896]
def k0_mult9 (i : grid0.Coords) : BitVec 32 :=
  let arg1 : BitVec 32 := BitVec.ofNat 32 (i 1).val
  let c288_i32_346 : BitVec 32 := 288#32
  let v773 : BitVec 32 := Scalar.muli arg1 c288_i32_346
  let c64_i32 : BitVec 32 := 64#32
  let v774 : BitVec 32 := Scalar.addi v773 c64_i32
  let c0_i32_348 : BitVec 32 := 0#32
  let v776 : BitVec 1 := Scalar.cmpi .sgt v774 c0_i32_348
  let v777 : BitVec 32 := Scalar.extui v776
  let c0_i32_349 : BitVec 32 := 0#32
  let v778 : BitVec 1 := Scalar.cmpi .slt v774 c0_i32_349
  let v779 : BitVec 32 := Scalar.extui v778
  let v780 : BitVec 32 := Scalar.subi v777 v779
  let c128_i32_347 : BitVec 32 := 128#32
  let c0_i32_350 : BitVec 32 := 0#32
  let v781 : BitVec 1 := Scalar.cmpi .sgt c128_i32_347 c0_i32_350
  let v782 : BitVec 32 := Scalar.extui v781
  let c0_i32_351 : BitVec 32 := 0#32
  let v783 : BitVec 1 := Scalar.cmpi .slt c128_i32_347 c0_i32_351
  let v784 : BitVec 32 := Scalar.extui v783
  let v785 : BitVec 32 := Scalar.subi v782 v784
  let v786 : BitVec 1 := Scalar.cmpi .ne v780 v785
  let v787 : BitVec 32 := Scalar.remsi v774 c128_i32_347
  let c0_i32_352 : BitVec 32 := 0#32
  let v788 : BitVec 1 := Scalar.cmpi .ne v787 c0_i32_352
  let v789 : BitVec 1 := Scalar.andi v786 v788
  let v775 : BitVec 32 := Scalar.divsi v774 c128_i32_347
  let c1_i32_353 : BitVec 32 := 1#32
  let v790 : BitVec 32 := Scalar.subi v775 c1_i32_353
  let v791 : BitVec 32 := Scalar.select v789 v790 v775
  let c128_i32_354 : BitVec 32 := 128#32
  let v792 : BitVec 32 := Scalar.muli v791 c128_i32_354
  v792
def k0_off18 (i : grid0.Coords) : Fin 3 → Nat :=
  let arg1 : BitVec 32 := BitVec.ofNat 32 (i 1).val
  let v844 : Index := Scalar.indexCast arg1
  let c0_377 : Index := 0#32
  let c1024 : Index := 1024#32
  ![v844.toNat, 0, 1024]
def k0_off19 (i : grid0.Coords) : Fin 3 → Nat :=
  let arg1 : BitVec 32 := BitVec.ofNat 32 (i 1).val
  let v848 : Index := Scalar.indexCast arg1
  let c128_378 : Index := 128#32
  let c1024_379 : Index := 1024#32
  ![v848.toNat, 128, 1024]
def k0_mult10 (i : grid0.Coords) : BitVec 32 :=
  let arg1 : BitVec 32 := BitVec.ofNat 32 (i 1).val
  let c288_i32_380 : BitVec 32 := 288#32
  let v852 : BitVec 32 := Scalar.muli arg1 c288_i32_380
  let c72_i32 : BitVec 32 := 72#32
  let v853 : BitVec 32 := Scalar.addi v852 c72_i32
  let c0_i32_382 : BitVec 32 := 0#32
  let v855 : BitVec 1 := Scalar.cmpi .sgt v853 c0_i32_382
  let v856 : BitVec 32 := Scalar.extui v855
  let c0_i32_383 : BitVec 32 := 0#32
  let v857 : BitVec 1 := Scalar.cmpi .slt v853 c0_i32_383
  let v858 : BitVec 32 := Scalar.extui v857
  let v859 : BitVec 32 := Scalar.subi v856 v858
  let c128_i32_381 : BitVec 32 := 128#32
  let c0_i32_384 : BitVec 32 := 0#32
  let v860 : BitVec 1 := Scalar.cmpi .sgt c128_i32_381 c0_i32_384
  let v861 : BitVec 32 := Scalar.extui v860
  let c0_i32_385 : BitVec 32 := 0#32
  let v862 : BitVec 1 := Scalar.cmpi .slt c128_i32_381 c0_i32_385
  let v863 : BitVec 32 := Scalar.extui v862
  let v864 : BitVec 32 := Scalar.subi v861 v863
  let v865 : BitVec 1 := Scalar.cmpi .ne v859 v864
  let v866 : BitVec 32 := Scalar.remsi v853 c128_i32_381
  let c0_i32_386 : BitVec 32 := 0#32
  let v867 : BitVec 1 := Scalar.cmpi .ne v866 c0_i32_386
  let v868 : BitVec 1 := Scalar.andi v865 v867
  let v854 : BitVec 32 := Scalar.divsi v853 c128_i32_381
  let c1_i32_387 : BitVec 32 := 1#32
  let v869 : BitVec 32 := Scalar.subi v854 c1_i32_387
  let v870 : BitVec 32 := Scalar.select v868 v869 v854
  let c128_i32_388 : BitVec 32 := 128#32
  let v871 : BitVec 32 := Scalar.muli v870 c128_i32_388
  v871
def k0_off20 (i : grid0.Coords) : Fin 3 → Nat :=
  let arg1 : BitVec 32 := BitVec.ofNat 32 (i 1).val
  let v923 : Index := Scalar.indexCast arg1
  let c0_411 : Index := 0#32
  let c1152 : Index := 1152#32
  ![v923.toNat, 0, 1152]
def k0_off21 (i : grid0.Coords) : Fin 3 → Nat :=
  let arg1 : BitVec 32 := BitVec.ofNat 32 (i 1).val
  let v927 : Index := Scalar.indexCast arg1
  let c128_412 : Index := 128#32
  let c1152_413 : Index := 1152#32
  ![v927.toNat, 128, 1152]
def k0_mult11 (i : grid0.Coords) : BitVec 32 :=
  let arg1 : BitVec 32 := BitVec.ofNat 32 (i 1).val
  let c288_i32_414 : BitVec 32 := 288#32
  let v931 : BitVec 32 := Scalar.muli arg1 c288_i32_414
  let c80_i32 : BitVec 32 := 80#32
  let v932 : BitVec 32 := Scalar.addi v931 c80_i32
  let c0_i32_416 : BitVec 32 := 0#32
  let v934 : BitVec 1 := Scalar.cmpi .sgt v932 c0_i32_416
  let v935 : BitVec 32 := Scalar.extui v934
  let c0_i32_417 : BitVec 32 := 0#32
  let v936 : BitVec 1 := Scalar.cmpi .slt v932 c0_i32_417
  let v937 : BitVec 32 := Scalar.extui v936
  let v938 : BitVec 32 := Scalar.subi v935 v937
  let c128_i32_415 : BitVec 32 := 128#32
  let c0_i32_418 : BitVec 32 := 0#32
  let v939 : BitVec 1 := Scalar.cmpi .sgt c128_i32_415 c0_i32_418
  let v940 : BitVec 32 := Scalar.extui v939
  let c0_i32_419 : BitVec 32 := 0#32
  let v941 : BitVec 1 := Scalar.cmpi .slt c128_i32_415 c0_i32_419
  let v942 : BitVec 32 := Scalar.extui v941
  let v943 : BitVec 32 := Scalar.subi v940 v942
  let v944 : BitVec 1 := Scalar.cmpi .ne v938 v943
  let v945 : BitVec 32 := Scalar.remsi v932 c128_i32_415
  let c0_i32_420 : BitVec 32 := 0#32
  let v946 : BitVec 1 := Scalar.cmpi .ne v945 c0_i32_420
  let v947 : BitVec 1 := Scalar.andi v944 v946
  let v933 : BitVec 32 := Scalar.divsi v932 c128_i32_415
  let c1_i32_421 : BitVec 32 := 1#32
  let v948 : BitVec 32 := Scalar.subi v933 c1_i32_421
  let v949 : BitVec 32 := Scalar.select v947 v948 v933
  let c128_i32_422 : BitVec 32 := 128#32
  let v950 : BitVec 32 := Scalar.muli v949 c128_i32_422
  v950
def k0_off22 (i : grid0.Coords) : Fin 3 → Nat :=
  let arg1 : BitVec 32 := BitVec.ofNat 32 (i 1).val
  let v1002 : Index := Scalar.indexCast arg1
  let c0_445 : Index := 0#32
  let c1280 : Index := 1280#32
  ![v1002.toNat, 0, 1280]
def k0_off23 (i : grid0.Coords) : Fin 3 → Nat :=
  let arg1 : BitVec 32 := BitVec.ofNat 32 (i 1).val
  let v1006 : Index := Scalar.indexCast arg1
  let c128_446 : Index := 128#32
  let c1280_447 : Index := 1280#32
  ![v1006.toNat, 128, 1280]
def k0_mult12 (i : grid0.Coords) : BitVec 32 :=
  let arg1 : BitVec 32 := BitVec.ofNat 32 (i 1).val
  let c288_i32_448 : BitVec 32 := 288#32
  let v1010 : BitVec 32 := Scalar.muli arg1 c288_i32_448
  let c88_i32 : BitVec 32 := 88#32
  let v1011 : BitVec 32 := Scalar.addi v1010 c88_i32
  let c0_i32_450 : BitVec 32 := 0#32
  let v1013 : BitVec 1 := Scalar.cmpi .sgt v1011 c0_i32_450
  let v1014 : BitVec 32 := Scalar.extui v1013
  let c0_i32_451 : BitVec 32 := 0#32
  let v1015 : BitVec 1 := Scalar.cmpi .slt v1011 c0_i32_451
  let v1016 : BitVec 32 := Scalar.extui v1015
  let v1017 : BitVec 32 := Scalar.subi v1014 v1016
  let c128_i32_449 : BitVec 32 := 128#32
  let c0_i32_452 : BitVec 32 := 0#32
  let v1018 : BitVec 1 := Scalar.cmpi .sgt c128_i32_449 c0_i32_452
  let v1019 : BitVec 32 := Scalar.extui v1018
  let c0_i32_453 : BitVec 32 := 0#32
  let v1020 : BitVec 1 := Scalar.cmpi .slt c128_i32_449 c0_i32_453
  let v1021 : BitVec 32 := Scalar.extui v1020
  let v1022 : BitVec 32 := Scalar.subi v1019 v1021
  let v1023 : BitVec 1 := Scalar.cmpi .ne v1017 v1022
  let v1024 : BitVec 32 := Scalar.remsi v1011 c128_i32_449
  let c0_i32_454 : BitVec 32 := 0#32
  let v1025 : BitVec 1 := Scalar.cmpi .ne v1024 c0_i32_454
  let v1026 : BitVec 1 := Scalar.andi v1023 v1025
  let v1012 : BitVec 32 := Scalar.divsi v1011 c128_i32_449
  let c1_i32_455 : BitVec 32 := 1#32
  let v1027 : BitVec 32 := Scalar.subi v1012 c1_i32_455
  let v1028 : BitVec 32 := Scalar.select v1026 v1027 v1012
  let c128_i32_456 : BitVec 32 := 128#32
  let v1029 : BitVec 32 := Scalar.muli v1028 c128_i32_456
  v1029
def k0_off24 (i : grid0.Coords) : Fin 3 → Nat :=
  let arg1 : BitVec 32 := BitVec.ofNat 32 (i 1).val
  let v1081 : Index := Scalar.indexCast arg1
  let c0_479 : Index := 0#32
  let c1408 : Index := 1408#32
  ![v1081.toNat, 0, 1408]
def k0_off25 (i : grid0.Coords) : Fin 3 → Nat :=
  let arg1 : BitVec 32 := BitVec.ofNat 32 (i 1).val
  let v1085 : Index := Scalar.indexCast arg1
  let c128_480 : Index := 128#32
  let c1408_481 : Index := 1408#32
  ![v1085.toNat, 128, 1408]
def k0_mult13 (i : grid0.Coords) : BitVec 32 :=
  let arg1 : BitVec 32 := BitVec.ofNat 32 (i 1).val
  let c288_i32_482 : BitVec 32 := 288#32
  let v1089 : BitVec 32 := Scalar.muli arg1 c288_i32_482
  let c96_i32 : BitVec 32 := 96#32
  let v1090 : BitVec 32 := Scalar.addi v1089 c96_i32
  let c0_i32_484 : BitVec 32 := 0#32
  let v1092 : BitVec 1 := Scalar.cmpi .sgt v1090 c0_i32_484
  let v1093 : BitVec 32 := Scalar.extui v1092
  let c0_i32_485 : BitVec 32 := 0#32
  let v1094 : BitVec 1 := Scalar.cmpi .slt v1090 c0_i32_485
  let v1095 : BitVec 32 := Scalar.extui v1094
  let v1096 : BitVec 32 := Scalar.subi v1093 v1095
  let c128_i32_483 : BitVec 32 := 128#32
  let c0_i32_486 : BitVec 32 := 0#32
  let v1097 : BitVec 1 := Scalar.cmpi .sgt c128_i32_483 c0_i32_486
  let v1098 : BitVec 32 := Scalar.extui v1097
  let c0_i32_487 : BitVec 32 := 0#32
  let v1099 : BitVec 1 := Scalar.cmpi .slt c128_i32_483 c0_i32_487
  let v1100 : BitVec 32 := Scalar.extui v1099
  let v1101 : BitVec 32 := Scalar.subi v1098 v1100
  let v1102 : BitVec 1 := Scalar.cmpi .ne v1096 v1101
  let v1103 : BitVec 32 := Scalar.remsi v1090 c128_i32_483
  let c0_i32_488 : BitVec 32 := 0#32
  let v1104 : BitVec 1 := Scalar.cmpi .ne v1103 c0_i32_488
  let v1105 : BitVec 1 := Scalar.andi v1102 v1104
  let v1091 : BitVec 32 := Scalar.divsi v1090 c128_i32_483
  let c1_i32_489 : BitVec 32 := 1#32
  let v1106 : BitVec 32 := Scalar.subi v1091 c1_i32_489
  let v1107 : BitVec 32 := Scalar.select v1105 v1106 v1091
  let c128_i32_490 : BitVec 32 := 128#32
  let v1108 : BitVec 32 := Scalar.muli v1107 c128_i32_490
  v1108
def k0_off26 (i : grid0.Coords) : Fin 3 → Nat :=
  let arg1 : BitVec 32 := BitVec.ofNat 32 (i 1).val
  let v1160 : Index := Scalar.indexCast arg1
  let c0_513 : Index := 0#32
  let c1536_514 : Index := 1536#32
  ![v1160.toNat, 0, 1536]
def k0_off27 (i : grid0.Coords) : Fin 3 → Nat :=
  let arg1 : BitVec 32 := BitVec.ofNat 32 (i 1).val
  let v1164 : Index := Scalar.indexCast arg1
  let c128_515 : Index := 128#32
  let c1536_516 : Index := 1536#32
  ![v1164.toNat, 128, 1536]
def k0_mult14 (i : grid0.Coords) : BitVec 32 :=
  let arg1 : BitVec 32 := BitVec.ofNat 32 (i 1).val
  let c288_i32_517 : BitVec 32 := 288#32
  let v1168 : BitVec 32 := Scalar.muli arg1 c288_i32_517
  let c104_i32 : BitVec 32 := 104#32
  let v1169 : BitVec 32 := Scalar.addi v1168 c104_i32
  let c0_i32_519 : BitVec 32 := 0#32
  let v1171 : BitVec 1 := Scalar.cmpi .sgt v1169 c0_i32_519
  let v1172 : BitVec 32 := Scalar.extui v1171
  let c0_i32_520 : BitVec 32 := 0#32
  let v1173 : BitVec 1 := Scalar.cmpi .slt v1169 c0_i32_520
  let v1174 : BitVec 32 := Scalar.extui v1173
  let v1175 : BitVec 32 := Scalar.subi v1172 v1174
  let c128_i32_518 : BitVec 32 := 128#32
  let c0_i32_521 : BitVec 32 := 0#32
  let v1176 : BitVec 1 := Scalar.cmpi .sgt c128_i32_518 c0_i32_521
  let v1177 : BitVec 32 := Scalar.extui v1176
  let c0_i32_522 : BitVec 32 := 0#32
  let v1178 : BitVec 1 := Scalar.cmpi .slt c128_i32_518 c0_i32_522
  let v1179 : BitVec 32 := Scalar.extui v1178
  let v1180 : BitVec 32 := Scalar.subi v1177 v1179
  let v1181 : BitVec 1 := Scalar.cmpi .ne v1175 v1180
  let v1182 : BitVec 32 := Scalar.remsi v1169 c128_i32_518
  let c0_i32_523 : BitVec 32 := 0#32
  let v1183 : BitVec 1 := Scalar.cmpi .ne v1182 c0_i32_523
  let v1184 : BitVec 1 := Scalar.andi v1181 v1183
  let v1170 : BitVec 32 := Scalar.divsi v1169 c128_i32_518
  let c1_i32_524 : BitVec 32 := 1#32
  let v1185 : BitVec 32 := Scalar.subi v1170 c1_i32_524
  let v1186 : BitVec 32 := Scalar.select v1184 v1185 v1170
  let c128_i32_525 : BitVec 32 := 128#32
  let v1187 : BitVec 32 := Scalar.muli v1186 c128_i32_525
  v1187
def k0_off28 (i : grid0.Coords) : Fin 3 → Nat :=
  let arg1 : BitVec 32 := BitVec.ofNat 32 (i 1).val
  let v1239 : Index := Scalar.indexCast arg1
  let c0_548 : Index := 0#32
  let c1664 : Index := 1664#32
  ![v1239.toNat, 0, 1664]
def k0_off29 (i : grid0.Coords) : Fin 3 → Nat :=
  let arg1 : BitVec 32 := BitVec.ofNat 32 (i 1).val
  let v1243 : Index := Scalar.indexCast arg1
  let c128_549 : Index := 128#32
  let c1664_550 : Index := 1664#32
  ![v1243.toNat, 128, 1664]
def k0_mult15 (i : grid0.Coords) : BitVec 32 :=
  let arg1 : BitVec 32 := BitVec.ofNat 32 (i 1).val
  let c288_i32_551 : BitVec 32 := 288#32
  let v1247 : BitVec 32 := Scalar.muli arg1 c288_i32_551
  let c112_i32 : BitVec 32 := 112#32
  let v1248 : BitVec 32 := Scalar.addi v1247 c112_i32
  let c0_i32_553 : BitVec 32 := 0#32
  let v1250 : BitVec 1 := Scalar.cmpi .sgt v1248 c0_i32_553
  let v1251 : BitVec 32 := Scalar.extui v1250
  let c0_i32_554 : BitVec 32 := 0#32
  let v1252 : BitVec 1 := Scalar.cmpi .slt v1248 c0_i32_554
  let v1253 : BitVec 32 := Scalar.extui v1252
  let v1254 : BitVec 32 := Scalar.subi v1251 v1253
  let c128_i32_552 : BitVec 32 := 128#32
  let c0_i32_555 : BitVec 32 := 0#32
  let v1255 : BitVec 1 := Scalar.cmpi .sgt c128_i32_552 c0_i32_555
  let v1256 : BitVec 32 := Scalar.extui v1255
  let c0_i32_556 : BitVec 32 := 0#32
  let v1257 : BitVec 1 := Scalar.cmpi .slt c128_i32_552 c0_i32_556
  let v1258 : BitVec 32 := Scalar.extui v1257
  let v1259 : BitVec 32 := Scalar.subi v1256 v1258
  let v1260 : BitVec 1 := Scalar.cmpi .ne v1254 v1259
  let v1261 : BitVec 32 := Scalar.remsi v1248 c128_i32_552
  let c0_i32_557 : BitVec 32 := 0#32
  let v1262 : BitVec 1 := Scalar.cmpi .ne v1261 c0_i32_557
  let v1263 : BitVec 1 := Scalar.andi v1260 v1262
  let v1249 : BitVec 32 := Scalar.divsi v1248 c128_i32_552
  let c1_i32_558 : BitVec 32 := 1#32
  let v1264 : BitVec 32 := Scalar.subi v1249 c1_i32_558
  let v1265 : BitVec 32 := Scalar.select v1263 v1264 v1249
  let c128_i32_559 : BitVec 32 := 128#32
  let v1266 : BitVec 32 := Scalar.muli v1265 c128_i32_559
  v1266
def k0_off30 (i : grid0.Coords) : Fin 3 → Nat :=
  let arg1 : BitVec 32 := BitVec.ofNat 32 (i 1).val
  let v1318 : Index := Scalar.indexCast arg1
  let c0_582 : Index := 0#32
  let c1792 : Index := 1792#32
  ![v1318.toNat, 0, 1792]
def k0_off31 (i : grid0.Coords) : Fin 3 → Nat :=
  let arg1 : BitVec 32 := BitVec.ofNat 32 (i 1).val
  let v1322 : Index := Scalar.indexCast arg1
  let c128_583 : Index := 128#32
  let c1792_584 : Index := 1792#32
  ![v1322.toNat, 128, 1792]
def k0_mult16 (i : grid0.Coords) : BitVec 32 :=
  let arg1 : BitVec 32 := BitVec.ofNat 32 (i 1).val
  let c288_i32_585 : BitVec 32 := 288#32
  let v1326 : BitVec 32 := Scalar.muli arg1 c288_i32_585
  let c120_i32 : BitVec 32 := 120#32
  let v1327 : BitVec 32 := Scalar.addi v1326 c120_i32
  let c0_i32_587 : BitVec 32 := 0#32
  let v1329 : BitVec 1 := Scalar.cmpi .sgt v1327 c0_i32_587
  let v1330 : BitVec 32 := Scalar.extui v1329
  let c0_i32_588 : BitVec 32 := 0#32
  let v1331 : BitVec 1 := Scalar.cmpi .slt v1327 c0_i32_588
  let v1332 : BitVec 32 := Scalar.extui v1331
  let v1333 : BitVec 32 := Scalar.subi v1330 v1332
  let c128_i32_586 : BitVec 32 := 128#32
  let c0_i32_589 : BitVec 32 := 0#32
  let v1334 : BitVec 1 := Scalar.cmpi .sgt c128_i32_586 c0_i32_589
  let v1335 : BitVec 32 := Scalar.extui v1334
  let c0_i32_590 : BitVec 32 := 0#32
  let v1336 : BitVec 1 := Scalar.cmpi .slt c128_i32_586 c0_i32_590
  let v1337 : BitVec 32 := Scalar.extui v1336
  let v1338 : BitVec 32 := Scalar.subi v1335 v1337
  let v1339 : BitVec 1 := Scalar.cmpi .ne v1333 v1338
  let v1340 : BitVec 32 := Scalar.remsi v1327 c128_i32_586
  let c0_i32_591 : BitVec 32 := 0#32
  let v1341 : BitVec 1 := Scalar.cmpi .ne v1340 c0_i32_591
  let v1342 : BitVec 1 := Scalar.andi v1339 v1341
  let v1328 : BitVec 32 := Scalar.divsi v1327 c128_i32_586
  let c1_i32_592 : BitVec 32 := 1#32
  let v1343 : BitVec 32 := Scalar.subi v1328 c1_i32_592
  let v1344 : BitVec 32 := Scalar.select v1342 v1343 v1328
  let c128_i32_593 : BitVec 32 := 128#32
  let v1345 : BitVec 32 := Scalar.muli v1344 c128_i32_593
  v1345
def k0_off32 (i : grid0.Coords) : Fin 3 → Nat :=
  let arg1 : BitVec 32 := BitVec.ofNat 32 (i 1).val
  let v1397 : Index := Scalar.indexCast arg1
  let c0_616 : Index := 0#32
  let c1920 : Index := 1920#32
  ![v1397.toNat, 0, 1920]
def k0_off33 (i : grid0.Coords) : Fin 3 → Nat :=
  let arg1 : BitVec 32 := BitVec.ofNat 32 (i 1).val
  let v1401 : Index := Scalar.indexCast arg1
  let c128_617 : Index := 128#32
  let c1920_618 : Index := 1920#32
  ![v1401.toNat, 128, 1920]
def k0_mult17 (i : grid0.Coords) : BitVec 32 :=
  let arg1 : BitVec 32 := BitVec.ofNat 32 (i 1).val
  let c288_i32_619 : BitVec 32 := 288#32
  let v1405 : BitVec 32 := Scalar.muli arg1 c288_i32_619
  let c128_i32_620 : BitVec 32 := 128#32
  let v1406 : BitVec 32 := Scalar.addi v1405 c128_i32_620
  let c0_i32_622 : BitVec 32 := 0#32
  let v1408 : BitVec 1 := Scalar.cmpi .sgt v1406 c0_i32_622
  let v1409 : BitVec 32 := Scalar.extui v1408
  let c0_i32_623 : BitVec 32 := 0#32
  let v1410 : BitVec 1 := Scalar.cmpi .slt v1406 c0_i32_623
  let v1411 : BitVec 32 := Scalar.extui v1410
  let v1412 : BitVec 32 := Scalar.subi v1409 v1411
  let c128_i32_621 : BitVec 32 := 128#32
  let c0_i32_624 : BitVec 32 := 0#32
  let v1413 : BitVec 1 := Scalar.cmpi .sgt c128_i32_621 c0_i32_624
  let v1414 : BitVec 32 := Scalar.extui v1413
  let c0_i32_625 : BitVec 32 := 0#32
  let v1415 : BitVec 1 := Scalar.cmpi .slt c128_i32_621 c0_i32_625
  let v1416 : BitVec 32 := Scalar.extui v1415
  let v1417 : BitVec 32 := Scalar.subi v1414 v1416
  let v1418 : BitVec 1 := Scalar.cmpi .ne v1412 v1417
  let v1419 : BitVec 32 := Scalar.remsi v1406 c128_i32_621
  let c0_i32_626 : BitVec 32 := 0#32
  let v1420 : BitVec 1 := Scalar.cmpi .ne v1419 c0_i32_626
  let v1421 : BitVec 1 := Scalar.andi v1418 v1420
  let v1407 : BitVec 32 := Scalar.divsi v1406 c128_i32_621
  let c1_i32_627 : BitVec 32 := 1#32
  let v1422 : BitVec 32 := Scalar.subi v1407 c1_i32_627
  let v1423 : BitVec 32 := Scalar.select v1421 v1422 v1407
  let c128_i32_628 : BitVec 32 := 128#32
  let v1424 : BitVec 32 := Scalar.muli v1423 c128_i32_628
  v1424
def k0_off34 (i : grid0.Coords) : Fin 3 → Nat :=
  let arg1 : BitVec 32 := BitVec.ofNat 32 (i 1).val
  let v1476 : Index := Scalar.indexCast arg1
  let c0_651 : Index := 0#32
  let c2048 : Index := 2048#32
  ![v1476.toNat, 0, 2048]
def k0_off35 (i : grid0.Coords) : Fin 3 → Nat :=
  let arg1 : BitVec 32 := BitVec.ofNat 32 (i 1).val
  let v1480 : Index := Scalar.indexCast arg1
  let c128_652 : Index := 128#32
  let c2048_653 : Index := 2048#32
  ![v1480.toNat, 128, 2048]
def k0_mult18 (i : grid0.Coords) : BitVec 32 :=
  let arg1 : BitVec 32 := BitVec.ofNat 32 (i 1).val
  let c288_i32_654 : BitVec 32 := 288#32
  let v1484 : BitVec 32 := Scalar.muli arg1 c288_i32_654
  let c136_i32 : BitVec 32 := 136#32
  let v1485 : BitVec 32 := Scalar.addi v1484 c136_i32
  let c0_i32_656 : BitVec 32 := 0#32
  let v1487 : BitVec 1 := Scalar.cmpi .sgt v1485 c0_i32_656
  let v1488 : BitVec 32 := Scalar.extui v1487
  let c0_i32_657 : BitVec 32 := 0#32
  let v1489 : BitVec 1 := Scalar.cmpi .slt v1485 c0_i32_657
  let v1490 : BitVec 32 := Scalar.extui v1489
  let v1491 : BitVec 32 := Scalar.subi v1488 v1490
  let c128_i32_655 : BitVec 32 := 128#32
  let c0_i32_658 : BitVec 32 := 0#32
  let v1492 : BitVec 1 := Scalar.cmpi .sgt c128_i32_655 c0_i32_658
  let v1493 : BitVec 32 := Scalar.extui v1492
  let c0_i32_659 : BitVec 32 := 0#32
  let v1494 : BitVec 1 := Scalar.cmpi .slt c128_i32_655 c0_i32_659
  let v1495 : BitVec 32 := Scalar.extui v1494
  let v1496 : BitVec 32 := Scalar.subi v1493 v1495
  let v1497 : BitVec 1 := Scalar.cmpi .ne v1491 v1496
  let v1498 : BitVec 32 := Scalar.remsi v1485 c128_i32_655
  let c0_i32_660 : BitVec 32 := 0#32
  let v1499 : BitVec 1 := Scalar.cmpi .ne v1498 c0_i32_660
  let v1500 : BitVec 1 := Scalar.andi v1497 v1499
  let v1486 : BitVec 32 := Scalar.divsi v1485 c128_i32_655
  let c1_i32_661 : BitVec 32 := 1#32
  let v1501 : BitVec 32 := Scalar.subi v1486 c1_i32_661
  let v1502 : BitVec 32 := Scalar.select v1500 v1501 v1486
  let c128_i32_662 : BitVec 32 := 128#32
  let v1503 : BitVec 32 := Scalar.muli v1502 c128_i32_662
  v1503
def k0_off36 (i : grid0.Coords) : Fin 3 → Nat :=
  let arg1 : BitVec 32 := BitVec.ofNat 32 (i 1).val
  let v1555 : Index := Scalar.indexCast arg1
  let c0_685 : Index := 0#32
  let c2176 : Index := 2176#32
  ![v1555.toNat, 0, 2176]
def k0_off37 (i : grid0.Coords) : Fin 3 → Nat :=
  let arg1 : BitVec 32 := BitVec.ofNat 32 (i 1).val
  let v1559 : Index := Scalar.indexCast arg1
  let c128_686 : Index := 128#32
  let c2176_687 : Index := 2176#32
  ![v1559.toNat, 128, 2176]
def k0_mult19 (i : grid0.Coords) : BitVec 32 :=
  let arg1 : BitVec 32 := BitVec.ofNat 32 (i 1).val
  let c288_i32_688 : BitVec 32 := 288#32
  let v1563 : BitVec 32 := Scalar.muli arg1 c288_i32_688
  let c144_i32 : BitVec 32 := 144#32
  let v1564 : BitVec 32 := Scalar.addi v1563 c144_i32
  let c0_i32_690 : BitVec 32 := 0#32
  let v1566 : BitVec 1 := Scalar.cmpi .sgt v1564 c0_i32_690
  let v1567 : BitVec 32 := Scalar.extui v1566
  let c0_i32_691 : BitVec 32 := 0#32
  let v1568 : BitVec 1 := Scalar.cmpi .slt v1564 c0_i32_691
  let v1569 : BitVec 32 := Scalar.extui v1568
  let v1570 : BitVec 32 := Scalar.subi v1567 v1569
  let c128_i32_689 : BitVec 32 := 128#32
  let c0_i32_692 : BitVec 32 := 0#32
  let v1571 : BitVec 1 := Scalar.cmpi .sgt c128_i32_689 c0_i32_692
  let v1572 : BitVec 32 := Scalar.extui v1571
  let c0_i32_693 : BitVec 32 := 0#32
  let v1573 : BitVec 1 := Scalar.cmpi .slt c128_i32_689 c0_i32_693
  let v1574 : BitVec 32 := Scalar.extui v1573
  let v1575 : BitVec 32 := Scalar.subi v1572 v1574
  let v1576 : BitVec 1 := Scalar.cmpi .ne v1570 v1575
  let v1577 : BitVec 32 := Scalar.remsi v1564 c128_i32_689
  let c0_i32_694 : BitVec 32 := 0#32
  let v1578 : BitVec 1 := Scalar.cmpi .ne v1577 c0_i32_694
  let v1579 : BitVec 1 := Scalar.andi v1576 v1578
  let v1565 : BitVec 32 := Scalar.divsi v1564 c128_i32_689
  let c1_i32_695 : BitVec 32 := 1#32
  let v1580 : BitVec 32 := Scalar.subi v1565 c1_i32_695
  let v1581 : BitVec 32 := Scalar.select v1579 v1580 v1565
  let c128_i32_696 : BitVec 32 := 128#32
  let v1582 : BitVec 32 := Scalar.muli v1581 c128_i32_696
  v1582
def k0_off38 (i : grid0.Coords) : Fin 3 → Nat :=
  let arg1 : BitVec 32 := BitVec.ofNat 32 (i 1).val
  let v1634 : Index := Scalar.indexCast arg1
  let c0_719 : Index := 0#32
  let c2304 : Index := 2304#32
  ![v1634.toNat, 0, 2304]
def k0_off39 (i : grid0.Coords) : Fin 3 → Nat :=
  let arg1 : BitVec 32 := BitVec.ofNat 32 (i 1).val
  let v1638 : Index := Scalar.indexCast arg1
  let c128_720 : Index := 128#32
  let c2304_721 : Index := 2304#32
  ![v1638.toNat, 128, 2304]
def k0_mult20 (i : grid0.Coords) : BitVec 32 :=
  let arg1 : BitVec 32 := BitVec.ofNat 32 (i 1).val
  let c288_i32_722 : BitVec 32 := 288#32
  let v1642 : BitVec 32 := Scalar.muli arg1 c288_i32_722
  let c152_i32 : BitVec 32 := 152#32
  let v1643 : BitVec 32 := Scalar.addi v1642 c152_i32
  let c0_i32_724 : BitVec 32 := 0#32
  let v1645 : BitVec 1 := Scalar.cmpi .sgt v1643 c0_i32_724
  let v1646 : BitVec 32 := Scalar.extui v1645
  let c0_i32_725 : BitVec 32 := 0#32
  let v1647 : BitVec 1 := Scalar.cmpi .slt v1643 c0_i32_725
  let v1648 : BitVec 32 := Scalar.extui v1647
  let v1649 : BitVec 32 := Scalar.subi v1646 v1648
  let c128_i32_723 : BitVec 32 := 128#32
  let c0_i32_726 : BitVec 32 := 0#32
  let v1650 : BitVec 1 := Scalar.cmpi .sgt c128_i32_723 c0_i32_726
  let v1651 : BitVec 32 := Scalar.extui v1650
  let c0_i32_727 : BitVec 32 := 0#32
  let v1652 : BitVec 1 := Scalar.cmpi .slt c128_i32_723 c0_i32_727
  let v1653 : BitVec 32 := Scalar.extui v1652
  let v1654 : BitVec 32 := Scalar.subi v1651 v1653
  let v1655 : BitVec 1 := Scalar.cmpi .ne v1649 v1654
  let v1656 : BitVec 32 := Scalar.remsi v1643 c128_i32_723
  let c0_i32_728 : BitVec 32 := 0#32
  let v1657 : BitVec 1 := Scalar.cmpi .ne v1656 c0_i32_728
  let v1658 : BitVec 1 := Scalar.andi v1655 v1657
  let v1644 : BitVec 32 := Scalar.divsi v1643 c128_i32_723
  let c1_i32_729 : BitVec 32 := 1#32
  let v1659 : BitVec 32 := Scalar.subi v1644 c1_i32_729
  let v1660 : BitVec 32 := Scalar.select v1658 v1659 v1644
  let c128_i32_730 : BitVec 32 := 128#32
  let v1661 : BitVec 32 := Scalar.muli v1660 c128_i32_730
  v1661
def k0_off40 (i : grid0.Coords) : Fin 3 → Nat :=
  let arg1 : BitVec 32 := BitVec.ofNat 32 (i 1).val
  let v1713 : Index := Scalar.indexCast arg1
  let c0_753 : Index := 0#32
  let c2432 : Index := 2432#32
  ![v1713.toNat, 0, 2432]
def k0_off41 (i : grid0.Coords) : Fin 3 → Nat :=
  let arg1 : BitVec 32 := BitVec.ofNat 32 (i 1).val
  let v1717 : Index := Scalar.indexCast arg1
  let c128_754 : Index := 128#32
  let c2432_755 : Index := 2432#32
  ![v1717.toNat, 128, 2432]
def k0_mult21 (i : grid0.Coords) : BitVec 32 :=
  let arg1 : BitVec 32 := BitVec.ofNat 32 (i 1).val
  let c288_i32_756 : BitVec 32 := 288#32
  let v1721 : BitVec 32 := Scalar.muli arg1 c288_i32_756
  let c160_i32 : BitVec 32 := 160#32
  let v1722 : BitVec 32 := Scalar.addi v1721 c160_i32
  let c0_i32_758 : BitVec 32 := 0#32
  let v1724 : BitVec 1 := Scalar.cmpi .sgt v1722 c0_i32_758
  let v1725 : BitVec 32 := Scalar.extui v1724
  let c0_i32_759 : BitVec 32 := 0#32
  let v1726 : BitVec 1 := Scalar.cmpi .slt v1722 c0_i32_759
  let v1727 : BitVec 32 := Scalar.extui v1726
  let v1728 : BitVec 32 := Scalar.subi v1725 v1727
  let c128_i32_757 : BitVec 32 := 128#32
  let c0_i32_760 : BitVec 32 := 0#32
  let v1729 : BitVec 1 := Scalar.cmpi .sgt c128_i32_757 c0_i32_760
  let v1730 : BitVec 32 := Scalar.extui v1729
  let c0_i32_761 : BitVec 32 := 0#32
  let v1731 : BitVec 1 := Scalar.cmpi .slt c128_i32_757 c0_i32_761
  let v1732 : BitVec 32 := Scalar.extui v1731
  let v1733 : BitVec 32 := Scalar.subi v1730 v1732
  let v1734 : BitVec 1 := Scalar.cmpi .ne v1728 v1733
  let v1735 : BitVec 32 := Scalar.remsi v1722 c128_i32_757
  let c0_i32_762 : BitVec 32 := 0#32
  let v1736 : BitVec 1 := Scalar.cmpi .ne v1735 c0_i32_762
  let v1737 : BitVec 1 := Scalar.andi v1734 v1736
  let v1723 : BitVec 32 := Scalar.divsi v1722 c128_i32_757
  let c1_i32_763 : BitVec 32 := 1#32
  let v1738 : BitVec 32 := Scalar.subi v1723 c1_i32_763
  let v1739 : BitVec 32 := Scalar.select v1737 v1738 v1723
  let c128_i32_764 : BitVec 32 := 128#32
  let v1740 : BitVec 32 := Scalar.muli v1739 c128_i32_764
  v1740
def k0_off42 (i : grid0.Coords) : Fin 3 → Nat :=
  let arg1 : BitVec 32 := BitVec.ofNat 32 (i 1).val
  let v1792 : Index := Scalar.indexCast arg1
  let c0_787 : Index := 0#32
  let c2560 : Index := 2560#32
  ![v1792.toNat, 0, 2560]
def k0_off43 (i : grid0.Coords) : Fin 3 → Nat :=
  let arg1 : BitVec 32 := BitVec.ofNat 32 (i 1).val
  let v1796 : Index := Scalar.indexCast arg1
  let c128_788 : Index := 128#32
  let c2560_789 : Index := 2560#32
  ![v1796.toNat, 128, 2560]
def k0_mult22 (i : grid0.Coords) : BitVec 32 :=
  let arg1 : BitVec 32 := BitVec.ofNat 32 (i 1).val
  let c288_i32_790 : BitVec 32 := 288#32
  let v1800 : BitVec 32 := Scalar.muli arg1 c288_i32_790
  let c168_i32 : BitVec 32 := 168#32
  let v1801 : BitVec 32 := Scalar.addi v1800 c168_i32
  let c0_i32_792 : BitVec 32 := 0#32
  let v1803 : BitVec 1 := Scalar.cmpi .sgt v1801 c0_i32_792
  let v1804 : BitVec 32 := Scalar.extui v1803
  let c0_i32_793 : BitVec 32 := 0#32
  let v1805 : BitVec 1 := Scalar.cmpi .slt v1801 c0_i32_793
  let v1806 : BitVec 32 := Scalar.extui v1805
  let v1807 : BitVec 32 := Scalar.subi v1804 v1806
  let c128_i32_791 : BitVec 32 := 128#32
  let c0_i32_794 : BitVec 32 := 0#32
  let v1808 : BitVec 1 := Scalar.cmpi .sgt c128_i32_791 c0_i32_794
  let v1809 : BitVec 32 := Scalar.extui v1808
  let c0_i32_795 : BitVec 32 := 0#32
  let v1810 : BitVec 1 := Scalar.cmpi .slt c128_i32_791 c0_i32_795
  let v1811 : BitVec 32 := Scalar.extui v1810
  let v1812 : BitVec 32 := Scalar.subi v1809 v1811
  let v1813 : BitVec 1 := Scalar.cmpi .ne v1807 v1812
  let v1814 : BitVec 32 := Scalar.remsi v1801 c128_i32_791
  let c0_i32_796 : BitVec 32 := 0#32
  let v1815 : BitVec 1 := Scalar.cmpi .ne v1814 c0_i32_796
  let v1816 : BitVec 1 := Scalar.andi v1813 v1815
  let v1802 : BitVec 32 := Scalar.divsi v1801 c128_i32_791
  let c1_i32_797 : BitVec 32 := 1#32
  let v1817 : BitVec 32 := Scalar.subi v1802 c1_i32_797
  let v1818 : BitVec 32 := Scalar.select v1816 v1817 v1802
  let c128_i32_798 : BitVec 32 := 128#32
  let v1819 : BitVec 32 := Scalar.muli v1818 c128_i32_798
  v1819
def k0_off44 (i : grid0.Coords) : Fin 3 → Nat :=
  let arg1 : BitVec 32 := BitVec.ofNat 32 (i 1).val
  let v1871 : Index := Scalar.indexCast arg1
  let c0_821 : Index := 0#32
  let c2688 : Index := 2688#32
  ![v1871.toNat, 0, 2688]
def k0_off45 (i : grid0.Coords) : Fin 3 → Nat :=
  let arg1 : BitVec 32 := BitVec.ofNat 32 (i 1).val
  let v1875 : Index := Scalar.indexCast arg1
  let c128_822 : Index := 128#32
  let c2688_823 : Index := 2688#32
  ![v1875.toNat, 128, 2688]
def k0_mult23 (i : grid0.Coords) : BitVec 32 :=
  let arg1 : BitVec 32 := BitVec.ofNat 32 (i 1).val
  let c288_i32_824 : BitVec 32 := 288#32
  let v1879 : BitVec 32 := Scalar.muli arg1 c288_i32_824
  let c176_i32 : BitVec 32 := 176#32
  let v1880 : BitVec 32 := Scalar.addi v1879 c176_i32
  let c0_i32_826 : BitVec 32 := 0#32
  let v1882 : BitVec 1 := Scalar.cmpi .sgt v1880 c0_i32_826
  let v1883 : BitVec 32 := Scalar.extui v1882
  let c0_i32_827 : BitVec 32 := 0#32
  let v1884 : BitVec 1 := Scalar.cmpi .slt v1880 c0_i32_827
  let v1885 : BitVec 32 := Scalar.extui v1884
  let v1886 : BitVec 32 := Scalar.subi v1883 v1885
  let c128_i32_825 : BitVec 32 := 128#32
  let c0_i32_828 : BitVec 32 := 0#32
  let v1887 : BitVec 1 := Scalar.cmpi .sgt c128_i32_825 c0_i32_828
  let v1888 : BitVec 32 := Scalar.extui v1887
  let c0_i32_829 : BitVec 32 := 0#32
  let v1889 : BitVec 1 := Scalar.cmpi .slt c128_i32_825 c0_i32_829
  let v1890 : BitVec 32 := Scalar.extui v1889
  let v1891 : BitVec 32 := Scalar.subi v1888 v1890
  let v1892 : BitVec 1 := Scalar.cmpi .ne v1886 v1891
  let v1893 : BitVec 32 := Scalar.remsi v1880 c128_i32_825
  let c0_i32_830 : BitVec 32 := 0#32
  let v1894 : BitVec 1 := Scalar.cmpi .ne v1893 c0_i32_830
  let v1895 : BitVec 1 := Scalar.andi v1892 v1894
  let v1881 : BitVec 32 := Scalar.divsi v1880 c128_i32_825
  let c1_i32_831 : BitVec 32 := 1#32
  let v1896 : BitVec 32 := Scalar.subi v1881 c1_i32_831
  let v1897 : BitVec 32 := Scalar.select v1895 v1896 v1881
  let c128_i32_832 : BitVec 32 := 128#32
  let v1898 : BitVec 32 := Scalar.muli v1897 c128_i32_832
  v1898
def k0_off46 (i : grid0.Coords) : Fin 3 → Nat :=
  let arg1 : BitVec 32 := BitVec.ofNat 32 (i 1).val
  let v1950 : Index := Scalar.indexCast arg1
  let c0_855 : Index := 0#32
  let c2816 : Index := 2816#32
  ![v1950.toNat, 0, 2816]
def k0_off47 (i : grid0.Coords) : Fin 3 → Nat :=
  let arg1 : BitVec 32 := BitVec.ofNat 32 (i 1).val
  let v1954 : Index := Scalar.indexCast arg1
  let c128_856 : Index := 128#32
  let c2816_857 : Index := 2816#32
  ![v1954.toNat, 128, 2816]
def k0_mult24 (i : grid0.Coords) : BitVec 32 :=
  let arg1 : BitVec 32 := BitVec.ofNat 32 (i 1).val
  let c288_i32_858 : BitVec 32 := 288#32
  let v1958 : BitVec 32 := Scalar.muli arg1 c288_i32_858
  let c184_i32 : BitVec 32 := 184#32
  let v1959 : BitVec 32 := Scalar.addi v1958 c184_i32
  let c0_i32_860 : BitVec 32 := 0#32
  let v1961 : BitVec 1 := Scalar.cmpi .sgt v1959 c0_i32_860
  let v1962 : BitVec 32 := Scalar.extui v1961
  let c0_i32_861 : BitVec 32 := 0#32
  let v1963 : BitVec 1 := Scalar.cmpi .slt v1959 c0_i32_861
  let v1964 : BitVec 32 := Scalar.extui v1963
  let v1965 : BitVec 32 := Scalar.subi v1962 v1964
  let c128_i32_859 : BitVec 32 := 128#32
  let c0_i32_862 : BitVec 32 := 0#32
  let v1966 : BitVec 1 := Scalar.cmpi .sgt c128_i32_859 c0_i32_862
  let v1967 : BitVec 32 := Scalar.extui v1966
  let c0_i32_863 : BitVec 32 := 0#32
  let v1968 : BitVec 1 := Scalar.cmpi .slt c128_i32_859 c0_i32_863
  let v1969 : BitVec 32 := Scalar.extui v1968
  let v1970 : BitVec 32 := Scalar.subi v1967 v1969
  let v1971 : BitVec 1 := Scalar.cmpi .ne v1965 v1970
  let v1972 : BitVec 32 := Scalar.remsi v1959 c128_i32_859
  let c0_i32_864 : BitVec 32 := 0#32
  let v1973 : BitVec 1 := Scalar.cmpi .ne v1972 c0_i32_864
  let v1974 : BitVec 1 := Scalar.andi v1971 v1973
  let v1960 : BitVec 32 := Scalar.divsi v1959 c128_i32_859
  let c1_i32_865 : BitVec 32 := 1#32
  let v1975 : BitVec 32 := Scalar.subi v1960 c1_i32_865
  let v1976 : BitVec 32 := Scalar.select v1974 v1975 v1960
  let c128_i32_866 : BitVec 32 := 128#32
  let v1977 : BitVec 32 := Scalar.muli v1976 c128_i32_866
  v1977
def k0_off48 (i : grid0.Coords) : Fin 3 → Nat :=
  let arg1 : BitVec 32 := BitVec.ofNat 32 (i 1).val
  let v2029 : Index := Scalar.indexCast arg1
  let c0_889 : Index := 0#32
  let c2944 : Index := 2944#32
  ![v2029.toNat, 0, 2944]
def k0_off49 (i : grid0.Coords) : Fin 3 → Nat :=
  let arg1 : BitVec 32 := BitVec.ofNat 32 (i 1).val
  let v2033 : Index := Scalar.indexCast arg1
  let c128_890 : Index := 128#32
  let c2944_891 : Index := 2944#32
  ![v2033.toNat, 128, 2944]
def k0_mult25 (i : grid0.Coords) : BitVec 32 :=
  let arg1 : BitVec 32 := BitVec.ofNat 32 (i 1).val
  let c288_i32_892 : BitVec 32 := 288#32
  let v2037 : BitVec 32 := Scalar.muli arg1 c288_i32_892
  let c192_i32 : BitVec 32 := 192#32
  let v2038 : BitVec 32 := Scalar.addi v2037 c192_i32
  let c0_i32_894 : BitVec 32 := 0#32
  let v2040 : BitVec 1 := Scalar.cmpi .sgt v2038 c0_i32_894
  let v2041 : BitVec 32 := Scalar.extui v2040
  let c0_i32_895 : BitVec 32 := 0#32
  let v2042 : BitVec 1 := Scalar.cmpi .slt v2038 c0_i32_895
  let v2043 : BitVec 32 := Scalar.extui v2042
  let v2044 : BitVec 32 := Scalar.subi v2041 v2043
  let c128_i32_893 : BitVec 32 := 128#32
  let c0_i32_896 : BitVec 32 := 0#32
  let v2045 : BitVec 1 := Scalar.cmpi .sgt c128_i32_893 c0_i32_896
  let v2046 : BitVec 32 := Scalar.extui v2045
  let c0_i32_897 : BitVec 32 := 0#32
  let v2047 : BitVec 1 := Scalar.cmpi .slt c128_i32_893 c0_i32_897
  let v2048 : BitVec 32 := Scalar.extui v2047
  let v2049 : BitVec 32 := Scalar.subi v2046 v2048
  let v2050 : BitVec 1 := Scalar.cmpi .ne v2044 v2049
  let v2051 : BitVec 32 := Scalar.remsi v2038 c128_i32_893
  let c0_i32_898 : BitVec 32 := 0#32
  let v2052 : BitVec 1 := Scalar.cmpi .ne v2051 c0_i32_898
  let v2053 : BitVec 1 := Scalar.andi v2050 v2052
  let v2039 : BitVec 32 := Scalar.divsi v2038 c128_i32_893
  let c1_i32_899 : BitVec 32 := 1#32
  let v2054 : BitVec 32 := Scalar.subi v2039 c1_i32_899
  let v2055 : BitVec 32 := Scalar.select v2053 v2054 v2039
  let c128_i32_900 : BitVec 32 := 128#32
  let v2056 : BitVec 32 := Scalar.muli v2055 c128_i32_900
  v2056
def k0_off50 (i : grid0.Coords) : Fin 3 → Nat :=
  let arg1 : BitVec 32 := BitVec.ofNat 32 (i 1).val
  let v2108 : Index := Scalar.indexCast arg1
  let c0_923 : Index := 0#32
  let c3072_924 : Index := 3072#32
  ![v2108.toNat, 0, 3072]
def k0_off51 (i : grid0.Coords) : Fin 3 → Nat :=
  let arg1 : BitVec 32 := BitVec.ofNat 32 (i 1).val
  let v2112 : Index := Scalar.indexCast arg1
  let c128_925 : Index := 128#32
  let c3072_926 : Index := 3072#32
  ![v2112.toNat, 128, 3072]
def k0_mult26 (i : grid0.Coords) : BitVec 32 :=
  let arg1 : BitVec 32 := BitVec.ofNat 32 (i 1).val
  let c288_i32_927 : BitVec 32 := 288#32
  let v2116 : BitVec 32 := Scalar.muli arg1 c288_i32_927
  let c200_i32 : BitVec 32 := 200#32
  let v2117 : BitVec 32 := Scalar.addi v2116 c200_i32
  let c0_i32_929 : BitVec 32 := 0#32
  let v2119 : BitVec 1 := Scalar.cmpi .sgt v2117 c0_i32_929
  let v2120 : BitVec 32 := Scalar.extui v2119
  let c0_i32_930 : BitVec 32 := 0#32
  let v2121 : BitVec 1 := Scalar.cmpi .slt v2117 c0_i32_930
  let v2122 : BitVec 32 := Scalar.extui v2121
  let v2123 : BitVec 32 := Scalar.subi v2120 v2122
  let c128_i32_928 : BitVec 32 := 128#32
  let c0_i32_931 : BitVec 32 := 0#32
  let v2124 : BitVec 1 := Scalar.cmpi .sgt c128_i32_928 c0_i32_931
  let v2125 : BitVec 32 := Scalar.extui v2124
  let c0_i32_932 : BitVec 32 := 0#32
  let v2126 : BitVec 1 := Scalar.cmpi .slt c128_i32_928 c0_i32_932
  let v2127 : BitVec 32 := Scalar.extui v2126
  let v2128 : BitVec 32 := Scalar.subi v2125 v2127
  let v2129 : BitVec 1 := Scalar.cmpi .ne v2123 v2128
  let v2130 : BitVec 32 := Scalar.remsi v2117 c128_i32_928
  let c0_i32_933 : BitVec 32 := 0#32
  let v2131 : BitVec 1 := Scalar.cmpi .ne v2130 c0_i32_933
  let v2132 : BitVec 1 := Scalar.andi v2129 v2131
  let v2118 : BitVec 32 := Scalar.divsi v2117 c128_i32_928
  let c1_i32_934 : BitVec 32 := 1#32
  let v2133 : BitVec 32 := Scalar.subi v2118 c1_i32_934
  let v2134 : BitVec 32 := Scalar.select v2132 v2133 v2118
  let c128_i32_935 : BitVec 32 := 128#32
  let v2135 : BitVec 32 := Scalar.muli v2134 c128_i32_935
  v2135
def k0_off52 (i : grid0.Coords) : Fin 3 → Nat :=
  let arg1 : BitVec 32 := BitVec.ofNat 32 (i 1).val
  let v2187 : Index := Scalar.indexCast arg1
  let c0_958 : Index := 0#32
  let c3200 : Index := 3200#32
  ![v2187.toNat, 0, 3200]
def k0_off53 (i : grid0.Coords) : Fin 3 → Nat :=
  let arg1 : BitVec 32 := BitVec.ofNat 32 (i 1).val
  let v2191 : Index := Scalar.indexCast arg1
  let c128_959 : Index := 128#32
  let c3200_960 : Index := 3200#32
  ![v2191.toNat, 128, 3200]
def k0_mult27 (i : grid0.Coords) : BitVec 32 :=
  let arg1 : BitVec 32 := BitVec.ofNat 32 (i 1).val
  let c288_i32_961 : BitVec 32 := 288#32
  let v2195 : BitVec 32 := Scalar.muli arg1 c288_i32_961
  let c208_i32 : BitVec 32 := 208#32
  let v2196 : BitVec 32 := Scalar.addi v2195 c208_i32
  let c0_i32_963 : BitVec 32 := 0#32
  let v2198 : BitVec 1 := Scalar.cmpi .sgt v2196 c0_i32_963
  let v2199 : BitVec 32 := Scalar.extui v2198
  let c0_i32_964 : BitVec 32 := 0#32
  let v2200 : BitVec 1 := Scalar.cmpi .slt v2196 c0_i32_964
  let v2201 : BitVec 32 := Scalar.extui v2200
  let v2202 : BitVec 32 := Scalar.subi v2199 v2201
  let c128_i32_962 : BitVec 32 := 128#32
  let c0_i32_965 : BitVec 32 := 0#32
  let v2203 : BitVec 1 := Scalar.cmpi .sgt c128_i32_962 c0_i32_965
  let v2204 : BitVec 32 := Scalar.extui v2203
  let c0_i32_966 : BitVec 32 := 0#32
  let v2205 : BitVec 1 := Scalar.cmpi .slt c128_i32_962 c0_i32_966
  let v2206 : BitVec 32 := Scalar.extui v2205
  let v2207 : BitVec 32 := Scalar.subi v2204 v2206
  let v2208 : BitVec 1 := Scalar.cmpi .ne v2202 v2207
  let v2209 : BitVec 32 := Scalar.remsi v2196 c128_i32_962
  let c0_i32_967 : BitVec 32 := 0#32
  let v2210 : BitVec 1 := Scalar.cmpi .ne v2209 c0_i32_967
  let v2211 : BitVec 1 := Scalar.andi v2208 v2210
  let v2197 : BitVec 32 := Scalar.divsi v2196 c128_i32_962
  let c1_i32_968 : BitVec 32 := 1#32
  let v2212 : BitVec 32 := Scalar.subi v2197 c1_i32_968
  let v2213 : BitVec 32 := Scalar.select v2211 v2212 v2197
  let c128_i32_969 : BitVec 32 := 128#32
  let v2214 : BitVec 32 := Scalar.muli v2213 c128_i32_969
  v2214
def k0_off54 (i : grid0.Coords) : Fin 3 → Nat :=
  let arg1 : BitVec 32 := BitVec.ofNat 32 (i 1).val
  let v2266 : Index := Scalar.indexCast arg1
  let c0_992 : Index := 0#32
  let c3328 : Index := 3328#32
  ![v2266.toNat, 0, 3328]
def k0_off55 (i : grid0.Coords) : Fin 3 → Nat :=
  let arg1 : BitVec 32 := BitVec.ofNat 32 (i 1).val
  let v2270 : Index := Scalar.indexCast arg1
  let c128_993 : Index := 128#32
  let c3328_994 : Index := 3328#32
  ![v2270.toNat, 128, 3328]
def k0_mult28 (i : grid0.Coords) : BitVec 32 :=
  let arg1 : BitVec 32 := BitVec.ofNat 32 (i 1).val
  let c288_i32_995 : BitVec 32 := 288#32
  let v2274 : BitVec 32 := Scalar.muli arg1 c288_i32_995
  let c216_i32 : BitVec 32 := 216#32
  let v2275 : BitVec 32 := Scalar.addi v2274 c216_i32
  let c0_i32_997 : BitVec 32 := 0#32
  let v2277 : BitVec 1 := Scalar.cmpi .sgt v2275 c0_i32_997
  let v2278 : BitVec 32 := Scalar.extui v2277
  let c0_i32_998 : BitVec 32 := 0#32
  let v2279 : BitVec 1 := Scalar.cmpi .slt v2275 c0_i32_998
  let v2280 : BitVec 32 := Scalar.extui v2279
  let v2281 : BitVec 32 := Scalar.subi v2278 v2280
  let c128_i32_996 : BitVec 32 := 128#32
  let c0_i32_999 : BitVec 32 := 0#32
  let v2282 : BitVec 1 := Scalar.cmpi .sgt c128_i32_996 c0_i32_999
  let v2283 : BitVec 32 := Scalar.extui v2282
  let c0_i32_1000 : BitVec 32 := 0#32
  let v2284 : BitVec 1 := Scalar.cmpi .slt c128_i32_996 c0_i32_1000
  let v2285 : BitVec 32 := Scalar.extui v2284
  let v2286 : BitVec 32 := Scalar.subi v2283 v2285
  let v2287 : BitVec 1 := Scalar.cmpi .ne v2281 v2286
  let v2288 : BitVec 32 := Scalar.remsi v2275 c128_i32_996
  let c0_i32_1001 : BitVec 32 := 0#32
  let v2289 : BitVec 1 := Scalar.cmpi .ne v2288 c0_i32_1001
  let v2290 : BitVec 1 := Scalar.andi v2287 v2289
  let v2276 : BitVec 32 := Scalar.divsi v2275 c128_i32_996
  let c1_i32_1002 : BitVec 32 := 1#32
  let v2291 : BitVec 32 := Scalar.subi v2276 c1_i32_1002
  let v2292 : BitVec 32 := Scalar.select v2290 v2291 v2276
  let c128_i32_1003 : BitVec 32 := 128#32
  let v2293 : BitVec 32 := Scalar.muli v2292 c128_i32_1003
  v2293
def k0_off56 (i : grid0.Coords) : Fin 3 → Nat :=
  let arg1 : BitVec 32 := BitVec.ofNat 32 (i 1).val
  let v2345 : Index := Scalar.indexCast arg1
  let c0_1026 : Index := 0#32
  let c3456 : Index := 3456#32
  ![v2345.toNat, 0, 3456]
def k0_off57 (i : grid0.Coords) : Fin 3 → Nat :=
  let arg1 : BitVec 32 := BitVec.ofNat 32 (i 1).val
  let v2349 : Index := Scalar.indexCast arg1
  let c128_1027 : Index := 128#32
  let c3456_1028 : Index := 3456#32
  ![v2349.toNat, 128, 3456]
def k0_mult29 (i : grid0.Coords) : BitVec 32 :=
  let arg1 : BitVec 32 := BitVec.ofNat 32 (i 1).val
  let c288_i32_1029 : BitVec 32 := 288#32
  let v2353 : BitVec 32 := Scalar.muli arg1 c288_i32_1029
  let c224_i32 : BitVec 32 := 224#32
  let v2354 : BitVec 32 := Scalar.addi v2353 c224_i32
  let c0_i32_1031 : BitVec 32 := 0#32
  let v2356 : BitVec 1 := Scalar.cmpi .sgt v2354 c0_i32_1031
  let v2357 : BitVec 32 := Scalar.extui v2356
  let c0_i32_1032 : BitVec 32 := 0#32
  let v2358 : BitVec 1 := Scalar.cmpi .slt v2354 c0_i32_1032
  let v2359 : BitVec 32 := Scalar.extui v2358
  let v2360 : BitVec 32 := Scalar.subi v2357 v2359
  let c128_i32_1030 : BitVec 32 := 128#32
  let c0_i32_1033 : BitVec 32 := 0#32
  let v2361 : BitVec 1 := Scalar.cmpi .sgt c128_i32_1030 c0_i32_1033
  let v2362 : BitVec 32 := Scalar.extui v2361
  let c0_i32_1034 : BitVec 32 := 0#32
  let v2363 : BitVec 1 := Scalar.cmpi .slt c128_i32_1030 c0_i32_1034
  let v2364 : BitVec 32 := Scalar.extui v2363
  let v2365 : BitVec 32 := Scalar.subi v2362 v2364
  let v2366 : BitVec 1 := Scalar.cmpi .ne v2360 v2365
  let v2367 : BitVec 32 := Scalar.remsi v2354 c128_i32_1030
  let c0_i32_1035 : BitVec 32 := 0#32
  let v2368 : BitVec 1 := Scalar.cmpi .ne v2367 c0_i32_1035
  let v2369 : BitVec 1 := Scalar.andi v2366 v2368
  let v2355 : BitVec 32 := Scalar.divsi v2354 c128_i32_1030
  let c1_i32_1036 : BitVec 32 := 1#32
  let v2370 : BitVec 32 := Scalar.subi v2355 c1_i32_1036
  let v2371 : BitVec 32 := Scalar.select v2369 v2370 v2355
  let c128_i32_1037 : BitVec 32 := 128#32
  let v2372 : BitVec 32 := Scalar.muli v2371 c128_i32_1037
  v2372
def k0_off58 (i : grid0.Coords) : Fin 3 → Nat :=
  let arg1 : BitVec 32 := BitVec.ofNat 32 (i 1).val
  let v2424 : Index := Scalar.indexCast arg1
  let c0_1060 : Index := 0#32
  let c3584 : Index := 3584#32
  ![v2424.toNat, 0, 3584]
def k0_off59 (i : grid0.Coords) : Fin 3 → Nat :=
  let arg1 : BitVec 32 := BitVec.ofNat 32 (i 1).val
  let v2428 : Index := Scalar.indexCast arg1
  let c128_1061 : Index := 128#32
  let c3584_1062 : Index := 3584#32
  ![v2428.toNat, 128, 3584]
def k0_mult30 (i : grid0.Coords) : BitVec 32 :=
  let arg1 : BitVec 32 := BitVec.ofNat 32 (i 1).val
  let c288_i32_1063 : BitVec 32 := 288#32
  let v2432 : BitVec 32 := Scalar.muli arg1 c288_i32_1063
  let c232_i32 : BitVec 32 := 232#32
  let v2433 : BitVec 32 := Scalar.addi v2432 c232_i32
  let c0_i32_1065 : BitVec 32 := 0#32
  let v2435 : BitVec 1 := Scalar.cmpi .sgt v2433 c0_i32_1065
  let v2436 : BitVec 32 := Scalar.extui v2435
  let c0_i32_1066 : BitVec 32 := 0#32
  let v2437 : BitVec 1 := Scalar.cmpi .slt v2433 c0_i32_1066
  let v2438 : BitVec 32 := Scalar.extui v2437
  let v2439 : BitVec 32 := Scalar.subi v2436 v2438
  let c128_i32_1064 : BitVec 32 := 128#32
  let c0_i32_1067 : BitVec 32 := 0#32
  let v2440 : BitVec 1 := Scalar.cmpi .sgt c128_i32_1064 c0_i32_1067
  let v2441 : BitVec 32 := Scalar.extui v2440
  let c0_i32_1068 : BitVec 32 := 0#32
  let v2442 : BitVec 1 := Scalar.cmpi .slt c128_i32_1064 c0_i32_1068
  let v2443 : BitVec 32 := Scalar.extui v2442
  let v2444 : BitVec 32 := Scalar.subi v2441 v2443
  let v2445 : BitVec 1 := Scalar.cmpi .ne v2439 v2444
  let v2446 : BitVec 32 := Scalar.remsi v2433 c128_i32_1064
  let c0_i32_1069 : BitVec 32 := 0#32
  let v2447 : BitVec 1 := Scalar.cmpi .ne v2446 c0_i32_1069
  let v2448 : BitVec 1 := Scalar.andi v2445 v2447
  let v2434 : BitVec 32 := Scalar.divsi v2433 c128_i32_1064
  let c1_i32_1070 : BitVec 32 := 1#32
  let v2449 : BitVec 32 := Scalar.subi v2434 c1_i32_1070
  let v2450 : BitVec 32 := Scalar.select v2448 v2449 v2434
  let c128_i32_1071 : BitVec 32 := 128#32
  let v2451 : BitVec 32 := Scalar.muli v2450 c128_i32_1071
  v2451
def k0_off60 (i : grid0.Coords) : Fin 3 → Nat :=
  let arg1 : BitVec 32 := BitVec.ofNat 32 (i 1).val
  let v2503 : Index := Scalar.indexCast arg1
  let c0_1094 : Index := 0#32
  let c3712 : Index := 3712#32
  ![v2503.toNat, 0, 3712]
def k0_off61 (i : grid0.Coords) : Fin 3 → Nat :=
  let arg1 : BitVec 32 := BitVec.ofNat 32 (i 1).val
  let v2507 : Index := Scalar.indexCast arg1
  let c128_1095 : Index := 128#32
  let c3712_1096 : Index := 3712#32
  ![v2507.toNat, 128, 3712]
def k0_mult31 (i : grid0.Coords) : BitVec 32 :=
  let arg1 : BitVec 32 := BitVec.ofNat 32 (i 1).val
  let c288_i32_1097 : BitVec 32 := 288#32
  let v2511 : BitVec 32 := Scalar.muli arg1 c288_i32_1097
  let c240_i32 : BitVec 32 := 240#32
  let v2512 : BitVec 32 := Scalar.addi v2511 c240_i32
  let c0_i32_1099 : BitVec 32 := 0#32
  let v2514 : BitVec 1 := Scalar.cmpi .sgt v2512 c0_i32_1099
  let v2515 : BitVec 32 := Scalar.extui v2514
  let c0_i32_1100 : BitVec 32 := 0#32
  let v2516 : BitVec 1 := Scalar.cmpi .slt v2512 c0_i32_1100
  let v2517 : BitVec 32 := Scalar.extui v2516
  let v2518 : BitVec 32 := Scalar.subi v2515 v2517
  let c128_i32_1098 : BitVec 32 := 128#32
  let c0_i32_1101 : BitVec 32 := 0#32
  let v2519 : BitVec 1 := Scalar.cmpi .sgt c128_i32_1098 c0_i32_1101
  let v2520 : BitVec 32 := Scalar.extui v2519
  let c0_i32_1102 : BitVec 32 := 0#32
  let v2521 : BitVec 1 := Scalar.cmpi .slt c128_i32_1098 c0_i32_1102
  let v2522 : BitVec 32 := Scalar.extui v2521
  let v2523 : BitVec 32 := Scalar.subi v2520 v2522
  let v2524 : BitVec 1 := Scalar.cmpi .ne v2518 v2523
  let v2525 : BitVec 32 := Scalar.remsi v2512 c128_i32_1098
  let c0_i32_1103 : BitVec 32 := 0#32
  let v2526 : BitVec 1 := Scalar.cmpi .ne v2525 c0_i32_1103
  let v2527 : BitVec 1 := Scalar.andi v2524 v2526
  let v2513 : BitVec 32 := Scalar.divsi v2512 c128_i32_1098
  let c1_i32_1104 : BitVec 32 := 1#32
  let v2528 : BitVec 32 := Scalar.subi v2513 c1_i32_1104
  let v2529 : BitVec 32 := Scalar.select v2527 v2528 v2513
  let c128_i32_1105 : BitVec 32 := 128#32
  let v2530 : BitVec 32 := Scalar.muli v2529 c128_i32_1105
  v2530
def k0_off62 (i : grid0.Coords) : Fin 3 → Nat :=
  let arg1 : BitVec 32 := BitVec.ofNat 32 (i 1).val
  let v2582 : Index := Scalar.indexCast arg1
  let c0_1128 : Index := 0#32
  let c3840 : Index := 3840#32
  ![v2582.toNat, 0, 3840]
def k0_off63 (i : grid0.Coords) : Fin 3 → Nat :=
  let arg1 : BitVec 32 := BitVec.ofNat 32 (i 1).val
  let v2586 : Index := Scalar.indexCast arg1
  let c128_1129 : Index := 128#32
  let c3840_1130 : Index := 3840#32
  ![v2586.toNat, 128, 3840]
def k0_mult32 (i : grid0.Coords) : BitVec 32 :=
  let arg1 : BitVec 32 := BitVec.ofNat 32 (i 1).val
  let c288_i32_1131 : BitVec 32 := 288#32
  let v2590 : BitVec 32 := Scalar.muli arg1 c288_i32_1131
  let c248_i32 : BitVec 32 := 248#32
  let v2591 : BitVec 32 := Scalar.addi v2590 c248_i32
  let c0_i32_1133 : BitVec 32 := 0#32
  let v2593 : BitVec 1 := Scalar.cmpi .sgt v2591 c0_i32_1133
  let v2594 : BitVec 32 := Scalar.extui v2593
  let c0_i32_1134 : BitVec 32 := 0#32
  let v2595 : BitVec 1 := Scalar.cmpi .slt v2591 c0_i32_1134
  let v2596 : BitVec 32 := Scalar.extui v2595
  let v2597 : BitVec 32 := Scalar.subi v2594 v2596
  let c128_i32_1132 : BitVec 32 := 128#32
  let c0_i32_1135 : BitVec 32 := 0#32
  let v2598 : BitVec 1 := Scalar.cmpi .sgt c128_i32_1132 c0_i32_1135
  let v2599 : BitVec 32 := Scalar.extui v2598
  let c0_i32_1136 : BitVec 32 := 0#32
  let v2600 : BitVec 1 := Scalar.cmpi .slt c128_i32_1132 c0_i32_1136
  let v2601 : BitVec 32 := Scalar.extui v2600
  let v2602 : BitVec 32 := Scalar.subi v2599 v2601
  let v2603 : BitVec 1 := Scalar.cmpi .ne v2597 v2602
  let v2604 : BitVec 32 := Scalar.remsi v2591 c128_i32_1132
  let c0_i32_1137 : BitVec 32 := 0#32
  let v2605 : BitVec 1 := Scalar.cmpi .ne v2604 c0_i32_1137
  let v2606 : BitVec 1 := Scalar.andi v2603 v2605
  let v2592 : BitVec 32 := Scalar.divsi v2591 c128_i32_1132
  let c1_i32_1138 : BitVec 32 := 1#32
  let v2607 : BitVec 32 := Scalar.subi v2592 c1_i32_1138
  let v2608 : BitVec 32 := Scalar.select v2606 v2607 v2592
  let c128_i32_1139 : BitVec 32 := 128#32
  let v2609 : BitVec 32 := Scalar.muli v2608 c128_i32_1139
  v2609
def k0_off64 (i : grid0.Coords) : Fin 3 → Nat :=
  let arg1 : BitVec 32 := BitVec.ofNat 32 (i 1).val
  let v2661 : Index := Scalar.indexCast arg1
  let c0_1162 : Index := 0#32
  let c3968 : Index := 3968#32
  ![v2661.toNat, 0, 3968]
def k0_off65 (i : grid0.Coords) : Fin 3 → Nat :=
  let arg1 : BitVec 32 := BitVec.ofNat 32 (i 1).val
  let v2665 : Index := Scalar.indexCast arg1
  let c128_1163 : Index := 128#32
  let c3968_1164 : Index := 3968#32
  ![v2665.toNat, 128, 3968]
def k0_mult33 (i : grid0.Coords) : BitVec 32 :=
  let arg1 : BitVec 32 := BitVec.ofNat 32 (i 1).val
  let c288_i32_1165 : BitVec 32 := 288#32
  let v2669 : BitVec 32 := Scalar.muli arg1 c288_i32_1165
  let c256_i32 : BitVec 32 := 256#32
  let v2670 : BitVec 32 := Scalar.addi v2669 c256_i32
  let c0_i32_1167 : BitVec 32 := 0#32
  let v2672 : BitVec 1 := Scalar.cmpi .sgt v2670 c0_i32_1167
  let v2673 : BitVec 32 := Scalar.extui v2672
  let c0_i32_1168 : BitVec 32 := 0#32
  let v2674 : BitVec 1 := Scalar.cmpi .slt v2670 c0_i32_1168
  let v2675 : BitVec 32 := Scalar.extui v2674
  let v2676 : BitVec 32 := Scalar.subi v2673 v2675
  let c128_i32_1166 : BitVec 32 := 128#32
  let c0_i32_1169 : BitVec 32 := 0#32
  let v2677 : BitVec 1 := Scalar.cmpi .sgt c128_i32_1166 c0_i32_1169
  let v2678 : BitVec 32 := Scalar.extui v2677
  let c0_i32_1170 : BitVec 32 := 0#32
  let v2679 : BitVec 1 := Scalar.cmpi .slt c128_i32_1166 c0_i32_1170
  let v2680 : BitVec 32 := Scalar.extui v2679
  let v2681 : BitVec 32 := Scalar.subi v2678 v2680
  let v2682 : BitVec 1 := Scalar.cmpi .ne v2676 v2681
  let v2683 : BitVec 32 := Scalar.remsi v2670 c128_i32_1166
  let c0_i32_1171 : BitVec 32 := 0#32
  let v2684 : BitVec 1 := Scalar.cmpi .ne v2683 c0_i32_1171
  let v2685 : BitVec 1 := Scalar.andi v2682 v2684
  let v2671 : BitVec 32 := Scalar.divsi v2670 c128_i32_1166
  let c1_i32_1172 : BitVec 32 := 1#32
  let v2686 : BitVec 32 := Scalar.subi v2671 c1_i32_1172
  let v2687 : BitVec 32 := Scalar.select v2685 v2686 v2671
  let c128_i32_1173 : BitVec 32 := 128#32
  let v2688 : BitVec 32 := Scalar.muli v2687 c128_i32_1173
  v2688
def k0_off66 (i : grid0.Coords) : Fin 3 → Nat :=
  let arg1 : BitVec 32 := BitVec.ofNat 32 (i 1).val
  let v2740 : Index := Scalar.indexCast arg1
  let c0_1196 : Index := 0#32
  let c4096 : Index := 4096#32
  ![v2740.toNat, 0, 4096]
def k0_off67 (i : grid0.Coords) : Fin 3 → Nat :=
  let arg1 : BitVec 32 := BitVec.ofNat 32 (i 1).val
  let v2744 : Index := Scalar.indexCast arg1
  let c128_1197 : Index := 128#32
  let c4096_1198 : Index := 4096#32
  ![v2744.toNat, 128, 4096]
def k0_mult34 (i : grid0.Coords) : BitVec 32 :=
  let arg1 : BitVec 32 := BitVec.ofNat 32 (i 1).val
  let c288_i32_1199 : BitVec 32 := 288#32
  let v2748 : BitVec 32 := Scalar.muli arg1 c288_i32_1199
  let c264_i32 : BitVec 32 := 264#32
  let v2749 : BitVec 32 := Scalar.addi v2748 c264_i32
  let c0_i32_1201 : BitVec 32 := 0#32
  let v2751 : BitVec 1 := Scalar.cmpi .sgt v2749 c0_i32_1201
  let v2752 : BitVec 32 := Scalar.extui v2751
  let c0_i32_1202 : BitVec 32 := 0#32
  let v2753 : BitVec 1 := Scalar.cmpi .slt v2749 c0_i32_1202
  let v2754 : BitVec 32 := Scalar.extui v2753
  let v2755 : BitVec 32 := Scalar.subi v2752 v2754
  let c128_i32_1200 : BitVec 32 := 128#32
  let c0_i32_1203 : BitVec 32 := 0#32
  let v2756 : BitVec 1 := Scalar.cmpi .sgt c128_i32_1200 c0_i32_1203
  let v2757 : BitVec 32 := Scalar.extui v2756
  let c0_i32_1204 : BitVec 32 := 0#32
  let v2758 : BitVec 1 := Scalar.cmpi .slt c128_i32_1200 c0_i32_1204
  let v2759 : BitVec 32 := Scalar.extui v2758
  let v2760 : BitVec 32 := Scalar.subi v2757 v2759
  let v2761 : BitVec 1 := Scalar.cmpi .ne v2755 v2760
  let v2762 : BitVec 32 := Scalar.remsi v2749 c128_i32_1200
  let c0_i32_1205 : BitVec 32 := 0#32
  let v2763 : BitVec 1 := Scalar.cmpi .ne v2762 c0_i32_1205
  let v2764 : BitVec 1 := Scalar.andi v2761 v2763
  let v2750 : BitVec 32 := Scalar.divsi v2749 c128_i32_1200
  let c1_i32_1206 : BitVec 32 := 1#32
  let v2765 : BitVec 32 := Scalar.subi v2750 c1_i32_1206
  let v2766 : BitVec 32 := Scalar.select v2764 v2765 v2750
  let c128_i32_1207 : BitVec 32 := 128#32
  let v2767 : BitVec 32 := Scalar.muli v2766 c128_i32_1207
  v2767
def k0_off68 (i : grid0.Coords) : Fin 3 → Nat :=
  let arg1 : BitVec 32 := BitVec.ofNat 32 (i 1).val
  let v2819 : Index := Scalar.indexCast arg1
  let c0_1230 : Index := 0#32
  let c4224 : Index := 4224#32
  ![v2819.toNat, 0, 4224]
def k0_off69 (i : grid0.Coords) : Fin 3 → Nat :=
  let arg1 : BitVec 32 := BitVec.ofNat 32 (i 1).val
  let v2823 : Index := Scalar.indexCast arg1
  let c128_1231 : Index := 128#32
  let c4224_1232 : Index := 4224#32
  ![v2823.toNat, 128, 4224]
def k0_mult35 (i : grid0.Coords) : BitVec 32 :=
  let arg1 : BitVec 32 := BitVec.ofNat 32 (i 1).val
  let c288_i32_1233 : BitVec 32 := 288#32
  let v2827 : BitVec 32 := Scalar.muli arg1 c288_i32_1233
  let c272_i32 : BitVec 32 := 272#32
  let v2828 : BitVec 32 := Scalar.addi v2827 c272_i32
  let c0_i32_1235 : BitVec 32 := 0#32
  let v2830 : BitVec 1 := Scalar.cmpi .sgt v2828 c0_i32_1235
  let v2831 : BitVec 32 := Scalar.extui v2830
  let c0_i32_1236 : BitVec 32 := 0#32
  let v2832 : BitVec 1 := Scalar.cmpi .slt v2828 c0_i32_1236
  let v2833 : BitVec 32 := Scalar.extui v2832
  let v2834 : BitVec 32 := Scalar.subi v2831 v2833
  let c128_i32_1234 : BitVec 32 := 128#32
  let c0_i32_1237 : BitVec 32 := 0#32
  let v2835 : BitVec 1 := Scalar.cmpi .sgt c128_i32_1234 c0_i32_1237
  let v2836 : BitVec 32 := Scalar.extui v2835
  let c0_i32_1238 : BitVec 32 := 0#32
  let v2837 : BitVec 1 := Scalar.cmpi .slt c128_i32_1234 c0_i32_1238
  let v2838 : BitVec 32 := Scalar.extui v2837
  let v2839 : BitVec 32 := Scalar.subi v2836 v2838
  let v2840 : BitVec 1 := Scalar.cmpi .ne v2834 v2839
  let v2841 : BitVec 32 := Scalar.remsi v2828 c128_i32_1234
  let c0_i32_1239 : BitVec 32 := 0#32
  let v2842 : BitVec 1 := Scalar.cmpi .ne v2841 c0_i32_1239
  let v2843 : BitVec 1 := Scalar.andi v2840 v2842
  let v2829 : BitVec 32 := Scalar.divsi v2828 c128_i32_1234
  let c1_i32_1240 : BitVec 32 := 1#32
  let v2844 : BitVec 32 := Scalar.subi v2829 c1_i32_1240
  let v2845 : BitVec 32 := Scalar.select v2843 v2844 v2829
  let c128_i32_1241 : BitVec 32 := 128#32
  let v2846 : BitVec 32 := Scalar.muli v2845 c128_i32_1241
  v2846
def k0_off70 (i : grid0.Coords) : Fin 3 → Nat :=
  let arg1 : BitVec 32 := BitVec.ofNat 32 (i 1).val
  let v2898 : Index := Scalar.indexCast arg1
  let c0_1264 : Index := 0#32
  let c4352 : Index := 4352#32
  ![v2898.toNat, 0, 4352]
def k0_off71 (i : grid0.Coords) : Fin 3 → Nat :=
  let arg1 : BitVec 32 := BitVec.ofNat 32 (i 1).val
  let v2902 : Index := Scalar.indexCast arg1
  let c128_1265 : Index := 128#32
  let c4352_1266 : Index := 4352#32
  ![v2902.toNat, 128, 4352]
def k0_mult36 (i : grid0.Coords) : BitVec 32 :=
  let arg1 : BitVec 32 := BitVec.ofNat 32 (i 1).val
  let c288_i32_1267 : BitVec 32 := 288#32
  let v2906 : BitVec 32 := Scalar.muli arg1 c288_i32_1267
  let c280_i32 : BitVec 32 := 280#32
  let v2907 : BitVec 32 := Scalar.addi v2906 c280_i32
  let c0_i32_1269 : BitVec 32 := 0#32
  let v2909 : BitVec 1 := Scalar.cmpi .sgt v2907 c0_i32_1269
  let v2910 : BitVec 32 := Scalar.extui v2909
  let c0_i32_1270 : BitVec 32 := 0#32
  let v2911 : BitVec 1 := Scalar.cmpi .slt v2907 c0_i32_1270
  let v2912 : BitVec 32 := Scalar.extui v2911
  let v2913 : BitVec 32 := Scalar.subi v2910 v2912
  let c128_i32_1268 : BitVec 32 := 128#32
  let c0_i32_1271 : BitVec 32 := 0#32
  let v2914 : BitVec 1 := Scalar.cmpi .sgt c128_i32_1268 c0_i32_1271
  let v2915 : BitVec 32 := Scalar.extui v2914
  let c0_i32_1272 : BitVec 32 := 0#32
  let v2916 : BitVec 1 := Scalar.cmpi .slt c128_i32_1268 c0_i32_1272
  let v2917 : BitVec 32 := Scalar.extui v2916
  let v2918 : BitVec 32 := Scalar.subi v2915 v2917
  let v2919 : BitVec 1 := Scalar.cmpi .ne v2913 v2918
  let v2920 : BitVec 32 := Scalar.remsi v2907 c128_i32_1268
  let c0_i32_1273 : BitVec 32 := 0#32
  let v2921 : BitVec 1 := Scalar.cmpi .ne v2920 c0_i32_1273
  let v2922 : BitVec 1 := Scalar.andi v2919 v2921
  let v2908 : BitVec 32 := Scalar.divsi v2907 c128_i32_1268
  let c1_i32_1274 : BitVec 32 := 1#32
  let v2923 : BitVec 32 := Scalar.subi v2908 c1_i32_1274
  let v2924 : BitVec 32 := Scalar.select v2922 v2923 v2908
  let c128_i32_1275 : BitVec 32 := 128#32
  let v2925 : BitVec 32 := Scalar.muli v2924 c128_i32_1275
  v2925
def k0_off72 (i : grid0.Coords) : Fin 3 → Nat :=
  let arg1 : BitVec 32 := BitVec.ofNat 32 (i 1).val
  let v2977 : Index := Scalar.indexCast arg1
  let c0_1298 : Index := 0#32
  let c4480 : Index := 4480#32
  ![v2977.toNat, 0, 4480]
def k0_off73 (i : grid0.Coords) : Fin 3 → Nat :=
  let arg1 : BitVec 32 := BitVec.ofNat 32 (i 1).val
  let v2981 : Index := Scalar.indexCast arg1
  let c128_1299 : Index := 128#32
  let c4480_1300 : Index := 4480#32
  ![v2981.toNat, 128, 4480]
def k0_off74 (i : grid0.Coords) : Fin 3 → Nat :=
  let arg1 : BitVec 32 := BitVec.ofNat 32 (i 1).val
  let v14 : Index := Scalar.indexCast arg1
  let c0_8 : Index := 0#32
  let c0_9 : Index := 0#32
  ![v14.toNat, 0, 0]
def k0_off75 (i : grid0.Coords) (c0_i32_10 : BitVec 32) : Fin 2 → Nat :=
  let arg1 : BitVec 32 := BitVec.ofNat 32 (i 1).val
  let c3_i32 : BitVec 32 := 3#32
  let v24 : BitVec 32 := Scalar.muli arg1 c3_i32
  let v25 : BitVec 32 := Scalar.addi v24 c0_i32_10
  let v26 : Index := Scalar.indexCast v25
  let c0_11 : Index := 0#32
  ![v26.toNat, 0]
def k0_off76 (i : grid0.Coords) : Fin 3 → Nat :=
  let arg1 : BitVec 32 := BitVec.ofNat 32 (i 1).val
  let v55 : Index := Scalar.indexCast arg1
  let c0_30 : Index := 0#32
  let c1536 : Index := 1536#32
  ![v55.toNat, 0, 1536]
def k0_off77 (i : grid0.Coords) : Fin 3 → Nat :=
  let arg1 : BitVec 32 := BitVec.ofNat 32 (i 1).val
  let v96 : Index := Scalar.indexCast arg1
  let c0_54 : Index := 0#32
  let c3072 : Index := 3072#32
  ![v96.toNat, 0, 3072]
def k0_cond4 (i : grid0.Coords) : BitVec 1 :=
  let arg1 : BitVec 32 := BitVec.ofNat 32 (i 1).val
  let c4_i32 : BitVec 32 := 4#32
  let v134 : BitVec 1 := Scalar.cmpi .eq arg1 c4_i32
  let v135 : BitVec 32 := Scalar.extui v134
  let c0_i32_76 : BitVec 32 := 0#32
  let v136 : BitVec 1 := Scalar.cmpi .ne v135 c0_i32_76
  v136

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S3x720x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S288x16x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S15x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S3x128x720 : Shape := ⟨3, ![3, 128, 720]⟩
abbrev S1440x16x5120 : Shape := ⟨3, ![1440, 16, 5120]⟩
abbrev S15x5120 : Shape := ⟨2, ![15, 5120]⟩
abbrev S3x128x5120 : Shape := ⟨3, ![3, 128, 5120]⟩
abbrev S3x128x15x48 : Shape := ⟨4, ![3, 128, 15, 48]⟩
abbrev S3x128x15x48x1 : Shape := ⟨5, ![3, 128, 15, 48, 1]⟩
abbrev S1x1x1x1x16 : Shape := ⟨5, ![1, 1, 1, 1, 16]⟩
abbrev S3x128x15x48x16 : Shape := ⟨5, ![3, 128, 15, 48, 16]⟩
abbrev S15x48x2x16x5120 : Shape := ⟨5, ![15, 48, 2, 16, 5120]⟩
abbrev S15x48x1x16x5120 : Shape := ⟨5, ![15, 48, 1, 16, 5120]⟩
abbrev S15x48x16x5120 : Shape := ⟨4, ![15, 48, 16, 5120]⟩
abbrev S15x5120x3x128 : Shape := ⟨4, ![15, 5120, 3, 128]⟩
abbrev S3x128x15x5120 : Shape := ⟨4, ![3, 128, 15, 5120]⟩
abbrev S5120x3x128 : Shape := ⟨3, ![5120, 3, 128]⟩

abbrev nBuf : Space → Nat
  | .hbm => 4
  | .vmem => 4
  | .smem => 0
  | _ => 0

abbrev bufTy : (tb : Table) → Fin (tcTables nBuf tb) → BufTy
  | .hbm, ⟨0, _⟩ => ⟨S3x128x720, .i8⟩
  | .hbm, ⟨1, _⟩ => ⟨S1440x16x5120, .i8⟩
  | .hbm, ⟨2, _⟩ => ⟨S15x5120, .f32⟩
  | .hbm, ⟨3, _⟩ => ⟨S3x128x5120, .bf16⟩
  | .local _ .vmem, ⟨0, _⟩ => ⟨S3x128x720, .i8⟩
  | .local _ .vmem, ⟨1, _⟩ => ⟨S1440x16x5120, .i8⟩
  | .local _ .vmem, ⟨2, _⟩ => ⟨S15x5120, .f32⟩
  | .local _ .vmem, ⟨3, _⟩ => ⟨S3x128x5120, .bf16⟩
  | _, _ => ⟨S3x128x720, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x128x720 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1440x16x5120 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x128x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelArms.lean ====
/-
  The body of the kernel function, cut at its conditionals: the arm that packs the codes, the arm that builds one slab of the
  left-hand side, the arm that zeroes the accumulator, the three group products, and the arm that writes the result. The printed
  function is these programs in order (`wp_body`).
-/
module

public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The three scratch buffers, whole: the packed codes, the left-hand side, the accumulator. -/
abbrev uM : Memref sig .tc .vmem S64x1536 .i32 := Memref.whole cc0_scratch0
abbrev aM : Memref sig .tc .vmem S5x256x4608 .bf16 := Memref.whole cc0_scratch1
abbrev yM : Memref sig .tc .vmem S3x128x512 .f32 := Memref.whole cc0_scratch2

/-- Memref `M`'s buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The condition under which the codes are packed, as the kernel computes it. -/
def condU (i : grid0.Coords) : BitVec 1 :=
  let v3 : BitVec 32 := Scalar.extui (Scalar.andi (Scalar.cmpi .eq (BitVec.ofNat 32 (i 0).val) 0#32) (Scalar.cmpi .eq (BitVec.ofNat 32 (i 1).val) 0#32))
  Scalar.cmpi .ne v3 0#32

/-- The condition under which the accumulator is zeroed, as the kernel computes it. -/
def condY (i : grid0.Coords) : BitVec 1 :=
  let v9 : BitVec 32 := Scalar.extui (Scalar.cmpi .eq (BitVec.ofNat 32 (i 1).val) 0#32)
  Scalar.cmpi .ne v9 0#32

/-- Packs the codes into the first scratch. -/
def progU (i : grid0.Coords) (arg2 : Memref sig .tc .vmem S3x720x128 .i8) (harg2 : arg2.IsWhole) (arg3 : Memref sig .tc .vmem S288x16x512 .i8) (harg3 : arg3.IsWhole) (arg4 : Memref sig .tc .vmem S15x512 .f32) (harg4 : arg4.IsWhole) (arg5 : Memref sig .tc .vmem S3x128x512 .bf16) (harg5 : arg5.IsWhole) (arg6 : Memref sig .tc .vmem S64x1536 .i32) (harg6 : arg6.IsWhole) (arg7 : Memref sig .tc .vmem S5x256x4608 .bf16) (harg7 : arg7.IsWhole) (arg8 : Memref sig .tc .vmem S3x128x512 .f32) (harg8 : arg8.IsWhole) :
    Prog (TpuEff nD τ sig (Elt F) Λ₀ .tc) PUnit := do
  let v467 : IVec S64x128 32 ← k0_part8 i arg2 harg2 arg3 harg3 arg4 harg4 arg5 harg5 arg6 harg6 arg7 harg7 arg8 harg8
  Prog.lift (.store arg6 (Rect.unit (s := S64x1536) ![0, 1408] S64x128.size inb_S64x1536_S64x128_0_1408) (k0_pay257 v467) Finset.univ (View.stores_vmem_bits_univ h_S64x128 rfl) (.inl rfl))

/-- Builds one slab of the left-hand side in the second scratch. -/
def progA (i : grid0.Coords) (arg2 : Memref sig .tc .vmem S3x720x128 .i8) (harg2 : arg2.IsWhole) (arg3 : Memref sig .tc .vmem S288x16x512 .i8) (harg3 : arg3.IsWhole) (arg4 : Memref sig .tc .vmem S15x512 .f32) (harg4 : arg4.IsWhole) (arg5 : Memref sig .tc .vmem S3x128x512 .bf16) (harg5 : arg5.IsWhole) (arg6 : Memref sig .tc .vmem S64x1536 .i32) (harg6 : arg6.IsWhole) (arg7 : Memref sig .tc .vmem S5x256x4608 .bf16) (harg7 : arg7.IsWhole) (arg8 : Memref sig .tc .vmem S3x128x512 .f32) (harg8 : arg8.IsWhole) (k0_h2 : k0_cond2 i = 1#1) :
    Prog (TpuEff nD τ sig (Elt F) Λ₀ .tc) PUnit := do
  let arg1 : BitVec 32 := BitVec.ofNat 32 (i 1).val
  let ⟨v137, v140, v2559, v2564, v2567, v2568, v2569⟩ : Σ' (v137 : IVec S64x128 32) (v140 : IVec S128x128 16) (v2559 : IVec S128x128 1) (v2564 : IVec S128x128 1) (v2567 : IVec S128x128 1) (v2568 : FVec F S128x128 .bf16), FVec F S128x128 .bf16 ← k0_part79 i arg2 harg2 arg3 harg3 arg4 harg4 arg5 harg5 arg6 harg6 arg7 harg7 arg8 harg8 arg1 k0_h2
  let ⟨v2591, v2608⟩ : Σ' (v2591 : BitVec 32), BitVec 32 ← k0_part69 i arg2 harg2 arg3 harg3 arg4 harg4 arg5 harg5 arg6 harg6 arg7 harg7 arg8 harg8 arg1 k0_h2 v2559 v2564 v2567 v2568 v2569
  let ⟨v2643, v2646, v2649, cst_1156, cst_1157⟩ : Σ' (v2643 : IVec S128x128 1) (v2646 : IVec S128x128 1) (v2649 : FVec F S128x128 .bf16) (cst_1156 : F .bf16), F .bf16 ← k0_part70 i arg2 harg2 arg3 harg3 arg4 harg4 arg5 harg5 arg6 harg6 arg7 harg7 arg8 harg8 k0_h2 v137 v140 v2591 v2608
  let ⟨v2670, v2689⟩ : Σ' (v2670 : BitVec 32), BitVec 32 ← k0_part71 i arg2 harg2 arg3 harg3 arg4 harg4 arg5 harg5 arg6 harg6 arg7 harg7 arg8 harg8 arg1 k0_h2 v2643 v2646 v2649 cst_1156 cst_1157
  let ⟨v2722, v2725, v2728, v2731⟩ : Σ' (v2722 : IVec S128x128 1) (v2725 : IVec S128x128 1) (v2728 : FVec F S128x128 .bf16), FVec F S128x128 .bf16 ← k0_part72 i arg2 harg2 arg3 harg3 arg4 harg4 arg5 harg5 arg6 harg6 arg7 harg7 arg8 harg8 k0_h2 v137 v140 v2670 v2689
  let ⟨v2749, v2770⟩ : Σ' (v2749 : BitVec 32), Vec F S64x128 .i32 ← k0_part73 i arg2 harg2 arg3 harg3 arg4 harg4 arg5 harg5 arg6 harg6 arg7 harg7 arg8 harg8 arg1 k0_h2 v2722 v2725 v2728 v2731
  let ⟨v2801, v2804, v2811, cst_1226, cst_1227⟩ : Σ' (v2801 : IVec S128x128 1) (v2804 : IVec S128x128 1) (v2811 : FVec F S128x128 .bf16) (cst_1226 : F .bf16), F .bf16 ← k0_part74 i arg2 harg2 arg3 harg3 arg4 harg4 arg5 harg5 arg6 harg6 arg7 harg7 arg8 harg8 v137 v140 v2749 v2770
  let ⟨v2828, v2849, v2851⟩ : Σ' (v2828 : BitVec 32) (v2849 : Vec F S64x128 .i32), IVec S64x128 32 ← k0_part75 i arg2 harg2 arg3 harg3 arg4 harg4 arg5 harg5 arg6 harg6 arg7 harg7 arg8 harg8 arg1 k0_h2 v137 v2801 v2804 v2811 cst_1226 cst_1227
  let ⟨v2883, v2890, v2893⟩ : Σ' (v2883 : IVec S128x128 1) (v2890 : FVec F S128x128 .bf16), FVec F S128x128 .bf16 ← k0_part76 i arg2 harg2 arg3 harg3 arg4 harg4 arg5 harg5 arg6 harg6 arg7 harg7 arg8 harg8 v140 v2828 v2849 v2851
  let ⟨v2907, v2928, v2930, c128_i32_1278, v2931⟩ : Σ' (v2907 : BitVec 32) (v2928 : Vec F S64x128 .i32) (v2930 : IVec S64x128 32) (c128_i32_1278 : BitVec 32), BitVec 1 ← k0_part77 i arg2 harg2 arg3 harg3 arg4 harg4 arg5 harg5 arg6 harg6 arg7 harg7 arg8 harg8 arg1 k0_h2 v137 v2883 v2890 v2893
  let ⟨v2962, v2969, v2972, cst_1297, v2973⟩ : Σ' (v2962 : IVec S128x128 1) (v2969 : FVec F S128x128 .bf16) (v2972 : FVec F S128x128 .bf16) (cst_1297 : F .bf16), FVec F S128x128 .bf16 ← k0_part78 i arg2 harg2 arg3 harg3 arg4 harg4 arg5 harg5 arg6 harg6 arg7 harg7 arg8 harg8 v140 v2907 v2928 v2930 c128_i32_1278 v2931
  let v2978 : Vec F S1x128x128 .bf16 ← Prog.lift (.load arg7 (Rect.unit (s := S5x256x4608) (k0_off72 i) S1x128x128.size (k0_off72_inb i k0_h2)).toLoadRect (View.loadsAt_vmem h_S1x128x128))
  Prog.lift (.store arg7 (Rect.unit (s := S5x256x4608) (k0_off72 i) S1x128x128.size (k0_off72_inb i k0_h2)) (k0_pay258 v2969) Finset.univ (View.stores_vmem h_S1x128x128 (harg7.storeExact_slice rfl _ (k0_off72_packedbf16 i k0_h2)) (fun _ => rfl)) (.inl rfl))
  let v2982 : Vec F S1x128x128 .bf16 ← Prog.lift (.load arg7 (Rect.unit (s := S5x256x4608) (k0_off73 i) S1x128x128.size (k0_off73_inb i k0_h2)).toLoadRect (View.loadsAt_vmem h_S1x128x128))
  Prog.lift (.store arg7 (Rect.unit (s := S5x256x4608) (k0_off73 i) S1x128x128.size (k0_off73_inb i k0_h2)) (k0_pay259 v2962 v2972 cst_1297 v2973) Finset.univ (View.stores_vmem h_S1x128x128 (harg7.storeExact_slice rfl _ (k0_off73_packedbf16 i k0_h2)) (fun _ => rfl)) (.inl rfl))

/-- Zeroes the accumulator. -/
def progY (i : grid0.Coords) (arg2 : Memref sig .tc .vmem S3x720x128 .i8) (harg2 : arg2.IsWhole) (arg3 : Memref sig .tc .vmem S288x16x512 .i8) (harg3 : arg3.IsWhole) (arg4 : Memref sig .tc .vmem S15x512 .f32) (harg4 : arg4.IsWhole) (arg5 : Memref sig .tc .vmem S3x128x512 .bf16) (harg5 : arg5.IsWhole) (arg6 : Memref sig .tc .vmem S64x1536 .i32) (harg6 : arg6.IsWhole) (arg7 : Memref sig .tc .vmem S5x256x4608 .bf16) (harg7 : arg7.IsWhole) (arg8 : Memref sig .tc .vmem S3x128x512 .f32) (harg8 : arg8.IsWhole) :
    Prog (TpuEff nD τ sig (Elt F) Λ₀ .tc) PUnit := do
  let v138 : Vec F S3x128x512 .f32 ← Prog.lift (.load arg8 (Rect.unit (s := S3x128x512) ![0, 0, 0] S3x128x512.size inb_S3x128x512_S3x128x512_0_0_0).toLoadRect (View.loadsAt_vmem h_S3x128x512))
  Prog.lift (.store arg8 (Rect.unit (s := S3x128x512) ![0, 0, 0] S3x128x512.size inb_S3x128x512_S3x128x512_0_0_0) (k0_pay260 (F := F)) Finset.univ (View.stores_vmem_bits_univ h_S3x128x512 rfl) (.inl rfl))

/-- The first group's loads. -/
def progG1 (i : grid0.Coords) (arg2 : Memref sig .tc .vmem S3x720x128 .i8) (harg2 : arg2.IsWhole) (arg3 : Memref sig .tc .vmem S288x16x512 .i8) (harg3 : arg3.IsWhole) (arg4 : Memref sig .tc .vmem S15x512 .f32) (harg4 : arg4.IsWhole) (arg5 : Memref sig .tc .vmem S3x128x512 .bf16) (harg5 : arg5.IsWhole) (arg6 : Memref sig .tc .vmem S64x1536 .i32) (harg6 : arg6.IsWhole) (arg7 : Memref sig .tc .vmem S5x256x4608 .bf16) (harg7 : arg7.IsWhole) (arg8 : Memref sig .tc .vmem S3x128x512 .f32) (harg8 : arg8.IsWhole) :
    Prog (TpuEff nD τ sig (Elt F) Λ₀ .tc) (Σ' (arg1 : BitVec 32) (v21 : FVec F S128x512 .f32) (v22 : FVec F S128x512 .f32) (v27 : Vec F S1x512 .f32), FVec F S128x512 .f32) := do
  let arg1 : BitVec 32 := BitVec.ofNat 32 (i 1).val
  let v11 : Vec F S96x16x512 .i8 ← Prog.lift (.load arg3 (Rect.unit (s := S288x16x512) ![0, 0, 0] S96x16x512.size inb_S288x16x512_S96x16x512_0_0_0).toLoadRect (View.loadsAt_vmem h_S96x16x512))
  let v15 : Vec F S1x256x1536 .bf16 ← Prog.lift (.load arg7 (Rect.unit (s := S5x256x4608) (k0_off74 i) S1x256x1536.size (k0_off74_inb i)).toLoadRect (View.loadsAt_vmem h_S1x256x1536))
  let v27 : Vec F S1x512 .f32 ← Prog.lift (.load arg4 (Rect.unit (s := S15x512) (k0_off75 i 0#32) S1x512.size (k0_off75_inb i 0)).toLoadRect (View.loadsAt_vmem h_S1x512))
  let v28 : Vec F S1x128x512 .f32 ← Prog.lift (.load arg8 (Rect.unit (s := S3x128x512) ![0, 0, 0] S1x128x512.size inb_S3x128x512_S1x128x512_0_0_0).toLoadRect (View.loadsAt_vmem h_S1x128x512))
  pure ⟨arg1, k0_pay264 v11 v15, k0_pay265 v11 v15, v27, k0_pay266 v11 v15 v27 v28⟩

/-- The rest of the three group products and, at the last step, the output. -/
def progG' (i : grid0.Coords) (arg2 : Memref sig .tc .vmem S3x720x128 .i8) (harg2 : arg2.IsWhole) (arg3 : Memref sig .tc .vmem S288x16x512 .i8) (harg3 : arg3.IsWhole) (arg4 : Memref sig .tc .vmem S15x512 .f32) (harg4 : arg4.IsWhole) (arg5 : Memref sig .tc .vmem S3x128x512 .bf16) (harg5 : arg5.IsWhole) (arg6 : Memref sig .tc .vmem S64x1536 .i32) (harg6 : arg6.IsWhole) (arg7 : Memref sig .tc .vmem S5x256x4608 .bf16) (harg7 : arg7.IsWhole) (arg8 : Memref sig .tc .vmem S3x128x512 .f32) (harg8 : arg8.IsWhole) (r : (Σ' (arg1 : BitVec 32) (v21 : FVec F S128x512 .f32) (v22 : FVec F S128x512 .f32) (v27 : Vec F S1x512 .f32), FVec F S128x512 .f32)) :
    Prog (TpuEff nD τ sig (Elt F) Λ₀ .tc) PUnit := do
  match r with
  | ⟨arg1, v21, v22, v27, v32⟩ => do
    let ⟨v62, v63, v64, v68⟩ : Σ' (v62 : FVec F S128x512 .f32) (v63 : FVec F S128x512 .f32) (v64 : FVec F S128x512 .f32), Vec F S1x512 .f32 ← k0_part81 i arg2 harg2 arg3 harg3 arg4 harg4 arg5 harg5 arg6 harg6 arg7 harg7 arg8 harg8 arg1 v21 v22 v27 v32
    let ⟨v100, v101⟩ : Σ' (v100 : FVec F S128x512 .f32), FVec F S128x512 .f32 ← k0_part82 i arg2 harg2 arg3 harg3 arg4 harg4 arg5 harg5 arg6 harg6 arg7 harg7 arg8 harg8 arg1 v62 v63 v64 v68
    let ⟨v135, c0_i32_76⟩ : Σ' (v135 : BitVec 32), BitVec 32 ← k0_part83 i arg2 harg2 arg3 harg3 arg4 harg4 arg5 harg5 arg6 harg6 arg7 harg7 arg8 harg8 arg1 v100 v101
    if k0_h4 : k0_cond4 i = 1#1 then do
      let v137 : Vec F S1x128x512 .f32 ← Prog.lift (.load arg8 (Rect.unit (s := S3x128x512) ![0, 0, 0] S1x128x512.size inb_S3x128x512_S1x128x512_0_0_0).toLoadRect (View.loadsAt_vmem h_S1x128x512))
      let v142 : Vec F S1x128x512 .bf16 ← Prog.lift (.load arg5 (Rect.unit (s := S3x128x512) ![0, 0, 0] S1x128x512.size inb_S3x128x512_S1x128x512_0_0_0).toLoadRect (View.loadsAt_vmem h_S1x128x512))
      Prog.lift (.store arg5 (Rect.unit (s := S3x128x512) ![0, 0, 0] S1x128x512.size inb_S3x128x512_S1x128x512_0_0_0) (k0_pay1 v137) Finset.univ (View.stores_vmem h_S1x128x512 (harg5.storeExact_slice rfl _ packedbf16_S3x128x512_S1x128x512_0_0_0) (fun _ => rfl)) (.inl rfl))
      let v145 : Vec F S1x128x512 .f32 ← Prog.lift (.load arg8 (Rect.unit (s := S3x128x512) ![1, 0, 0] S1x128x512.size inb_S3x128x512_S1x128x512_1_0_0).toLoadRect (View.loadsAt_vmem h_S1x128x512))
      let v150 : Vec F S1x128x512 .bf16 ← Prog.lift (.load arg5 (Rect.unit (s := S3x128x512) ![1, 0, 0] S1x128x512.size inb_S3x128x512_S1x128x512_1_0_0).toLoadRect (View.loadsAt_vmem h_S1x128x512))
      Prog.lift (.store arg5 (Rect.unit (s := S3x128x512) ![1, 0, 0] S1x128x512.size inb_S3x128x512_S1x128x512_1_0_0) (k0_pay2 v145) Finset.univ (View.stores_vmem h_S1x128x512 (harg5.storeExact_slice rfl _ packedbf16_S3x128x512_S1x128x512_1_0_0) (fun _ => rfl)) (.inl rfl))
      let v153 : Vec F S1x128x512 .f32 ← Prog.lift (.load arg8 (Rect.unit (s := S3x128x512) ![2, 0, 0] S1x128x512.size inb_S3x128x512_S1x128x512_2_0_0).toLoadRect (View.loadsAt_vmem h_S1x128x512))
      let v156 : Vec F S1x128x512 .bf16 ← Prog.lift (.load arg5 (Rect.unit (s := S3x128x512) ![2, 0, 0] S1x128x512.size inb_S3x128x512_S1x128x512_2_0_0).toLoadRect (View.loadsAt_vmem h_S1x128x512))
      Prog.lift (.store arg5 (Rect.unit (s := S3x128x512) ![2, 0, 0] S1x128x512.size inb_S3x128x512_S1x128x512_2_0_0) (k0_pay3 v153) Finset.univ (View.stores_vmem h_S1x128x512 (harg5.storeExact_slice rfl _ packedbf16_S3x128x512_S1x128x512_2_0_0) (fun _ => rfl)) (.inl rfl))
      pure ⟨⟩
    else do
      pure ⟨⟩
    pure ⟨⟩

/-- The three group products and, at the last step, the output. -/
def progG (i : grid0.Coords) (arg2 : Memref sig .tc .vmem S3x720x128 .i8) (harg2 : arg2.IsWhole) (arg3 : Memref sig .tc .vmem S288x16x512 .i8) (harg3 : arg3.IsWhole) (arg4 : Memref sig .tc .vmem S15x512 .f32) (harg4 : arg4.IsWhole) (arg5 : Memref sig .tc .vmem S3x128x512 .bf16) (harg5 : arg5.IsWhole) (arg6 : Memref sig .tc .vmem S64x1536 .i32) (harg6 : arg6.IsWhole) (arg7 : Memref sig .tc .vmem S5x256x4608 .bf16) (harg7 : arg7.IsWhole) (arg8 : Memref sig .tc .vmem S3x128x512 .f32) (harg8 : arg8.IsWhole) :
    Prog (TpuEff nD τ sig (Elt F) Λ₀ .tc) PUnit :=
  progG1 i arg2 harg2 arg3 harg3 arg4 harg4 arg5 harg5 arg6 harg6 arg7 harg7 arg8 harg8 >>= progG' i arg2 harg2 arg3 harg3 arg4 harg4 arg5 harg5 arg6 harg6 arg7 harg7 arg8 harg8

set_option maxRecDepth 65536 in
/-- The printed function runs its arms in order. -/
theorem wp_body (c : Dev nD) (i : grid0.Coords) (arg2 : Memref sig .tc .vmem S3x720x128 .i8) (harg2 : arg2.IsWhole) (arg3 : Memref sig .tc .vmem S288x16x512 .i8) (harg3 : arg3.IsWhole) (arg4 : Memref sig .tc .vmem S15x512 .f32) (harg4 : arg4.IsWhole) (arg5 : Memref sig .tc .vmem S3x128x512 .bf16) (harg5 : arg5.IsWhole) (arg6 : Memref sig .tc .vmem S64x1536 .i32) (harg6 : arg6.IsWhole) (arg7 : Memref sig .tc .vmem S5x256x4608 .bf16) (harg7 : arg7.IsWhole) (arg8 : Memref sig .tc .vmem S3x128x512 .f32) (harg8 : arg8.IsWhole) (K : PUnit → sProp 𝕄) :
    wp frame (wpE (defs₀ (F := F)) Variants.none c none) Set.univ (cc0_pq_packed_onehot i arg2 harg2 arg3 harg3 arg4 harg4 arg5 harg5 arg6 harg6 arg7 harg7 arg8 harg8) K
      = (let X3 := wp frame (wpE (defs₀ (F := F)) Variants.none c none) Set.univ (progG i arg2 harg2 arg3 harg3 arg4 harg4 arg5 harg5 arg6 harg6 arg7 harg7 arg8 harg8) K
         let X2 := if condY i = 1#1 then
           wp frame (wpE (defs₀ (F := F)) Variants.none c none) Set.univ (progY i arg2 harg2 arg3 harg3 arg4 harg4 arg5 harg5 arg6 harg6 arg7 harg7 arg8 harg8) (fun _ => X3) else X3
         let X1 := if k0_h2 : k0_cond2 i = 1#1 then
           wp frame (wpE (defs₀ (F := F)) Variants.none c none) Set.univ (progA i arg2 harg2 arg3 harg3 arg4 harg4 arg5 harg5 arg6 harg6 arg7 harg7 arg8 harg8 k0_h2) (fun _ => X2) else X2
         if condU i = 1#1 then
           wp frame (wpE (defs₀ (F := F)) Variants.none c none) Set.univ (progU i arg2 harg2 arg3 harg3 arg4 harg4 arg5 harg5 arg6 harg6 arg7 harg7 arg8 harg8) (fun _ => X1) else X1) := by
  have hG : wp frame (wpE (defs₀ (F := F)) Variants.none c none) Set.univ (cc0_pq_packed_onehot i arg2 harg2 arg3 harg3 arg4 harg4 arg5 harg5 arg6 harg6 arg7 harg7 arg8 harg8) K
      = wp frame (wpE (defs₀ (F := F)) Variants.none c none) Set.univ (k0_part80 i arg2 harg2 arg3 harg3 arg4 harg4 arg5 harg5 arg6 harg6 arg7 harg7 arg8 harg8) fun r =>
        wp frame (wpE (defs₀ (F := F)) Variants.none c none) Set.univ (progG' i arg2 harg2 arg3 harg3 arg4 harg4 arg5 harg5 arg6 harg6 arg7 harg7 arg8 harg8 r) K := by
    rw [cc0_pq_packed_onehot_eq_skeleton]
    unfold cc0_pq_packed_onehot_skel
    rw [wp_bind]
    rfl
  have hX : wp frame (wpE (defs₀ (F := F)) Variants.none c none) Set.univ (progG i arg2 harg2 arg3 harg3 arg4 harg4 arg5 harg5 arg6 harg6 arg7 harg7 arg8 harg8) K
      = wp frame (wpE (defs₀ (F := F)) Variants.none c none) Set.univ (progG1 i arg2 harg2 arg3 harg3 arg4 harg4 arg5 harg5 arg6 harg6 arg7 harg7 arg8 harg8) fun r =>
        wp frame (wpE (defs₀ (F := F)) Variants.none c none) Set.univ (progG' i arg2 harg2 arg3 harg3 arg4 harg4 arg5 harg5 arg6 harg6 arg7 harg7 arg8 harg8 r) K := by
    unfold progG
    rw [wp_bind]
  rw [hG, hX]
  generalize (fun r => wp frame (wpE (defs₀ (F := F)) Variants.none c none) Set.univ (progG' i arg2 harg2 arg3 harg3 arg4 harg4 arg5 harg5 arg6 harg6 arg7 harg7 arg8 harg8 r) K) = K'
  rw [k0_part80_eq_skeleton]
  unfold k0_part80_skel
  by_cases h1 : condU i = 1#1 <;> by_cases h2 : k0_cond2 i = 1#1 <;> by_cases h3 : condY i = 1#1 <;>
    have h1' := h1 <;> have h3' := h3 <;> unfold condU at h1' <;> unfold condY at h3' <;>
    simp only [h1, h2, h3, h1', h3', dif_pos, dif_neg, if_pos, if_neg, not_false_eq_true, wp_bind, progU, progA, progY, progG1]

end Cert.Kernel.Hand

end
-- ==== Proof.KernelFrame.lean ====
/-
  The frame of the compiled program: the launch terminates, its arguments end unchanged and every semaphore is zero again.
  Nothing is said here of what the scratch buffers or the result hold, so each arm of the body (`KernelArms.lean`) is run once
  from buffers at any contents to buffers at some contents.
-/
module

public import proofs.«01_k».proof.Proof.KernelArms

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

set_option maxHeartbeats 4000000
set_option maxRecDepth 65536

section Arms

variable (i : grid0.Coords) (c : Dev nD) (a2 : Memref sig .tc .vmem S3x720x128 .i8) (h2 : a2.IsWhole) (a3 : Memref sig .tc .vmem S288x16x512 .i8) (h3 : a3.IsWhole) (a4 : Memref sig .tc .vmem S15x512 .f32) (h4 : a4.IsWhole) (a5 : Memref sig .tc .vmem S3x128x512 .bf16) (h5 : a5.IsWhole)

/-- Every buffer the body touches, owned at some contents. -/
def res : sProp 𝕄 :=
  iprop((∃ d, owns (c : Thread nD τ) a2 fullShare d) ∗ (∃ d, owns (c : Thread nD τ) a3 fullShare d)
    ∗ (∃ d, owns (c : Thread nD τ) a4 fullShare d) ∗ (∃ d, owns (c : Thread nD τ) a5 fullShare d)
    ∗ (∃ d, owns (c : Thread nD τ) uM fullShare d) ∗ (∃ d, owns (c : Thread nD τ) aM fullShare d)
    ∗ (∃ d, owns (c : Thread nD τ) yM fullShare d))

theorem runU : (res c a2 a3 a4 a5 : sProp 𝕄) ⊢
    wp frame (wpE (defs₀ (F := F)) Variants.none c none) Set.univ (progU i a2 h2 a3 h3 a4 h4 a5 h5 uM (Memref.isWhole_whole _) aM (Memref.isWhole_whole _) yM (Memref.isWhole_whole _))
      (fun _ => res c a2 a3 a4 a5) := by
  unfold res owns progU
  iintro ⟨⟨%d2, %f2, -, H2⟩, H3, H4, H5, ⟨%du, %fu, -, Hu⟩, Ha, Hy⟩
  sl_open_parts
  sl_exec
  sl_step
  isplitl [H2]
  · iexists _, _; isplitr; swap; · iexact H2
    ipureintro; rfl
  isplitl [H3]; · iexact H3
  isplitl [H4]; · iexact H4
  isplitl [H5]; · iexact H5
  isplitl [Hu]
  · iexists _, _; isplitr; swap; · iexact Hu
    ipureintro; rfl
  isplitl [Ha]; · iexact Ha
  iexact Hy

set_option sl_open_parts.maxParts 100 in
theorem runA (h : k0_cond2 i = 1#1) : (res c a2 a3 a4 a5 : sProp 𝕄) ⊢
    wp frame (wpE (defs₀ (F := F)) Variants.none c none) Set.univ (progA i a2 h2 a3 h3 a4 h4 a5 h5 uM (Memref.isWhole_whole _) aM (Memref.isWhole_whole _) yM (Memref.isWhole_whole _) h)
      (fun _ => res c a2 a3 a4 a5) := by
  unfold res owns progA
  iintro ⟨H2, H3, H4, H5, ⟨%du, %fu, -, Hu⟩, ⟨%da, %fa, -, Ha⟩, Hy⟩
  sl_open_parts
  sl_exec
  sl_step
  isplitl [H2]; · iexact H2
  isplitl [H3]; · iexact H3
  isplitl [H4]; · iexact H4
  isplitl [H5]; · iexact H5
  isplitl [Hu]
  · iexists _, _; isplitr; swap; · iexact Hu
    ipureintro; rfl
  isplitl [Ha]
  · iexists _, _; isplitr; swap; · iexact Ha
    ipureintro; rfl
  iexact Hy

theorem runY : (res c a2 a3 a4 a5 : sProp 𝕄) ⊢
    wp frame (wpE (defs₀ (F := F)) Variants.none c none) Set.univ (progY i a2 h2 a3 h3 a4 h4 a5 h5 uM (Memref.isWhole_whole _) aM (Memref.isWhole_whole _) yM (Memref.isWhole_whole _))
      (fun _ => res c a2 a3 a4 a5) := by
  unfold res owns progY
  iintro ⟨H2, H3, H4, H5, Hu, Ha, ⟨%dy, %fy, -, Hy⟩⟩
  sl_exec
  sl_step
  isplitl [H2]; · iexact H2
  isplitl [H3]; · iexact H3
  isplitl [H4]; · iexact H4
  isplitl [H5]; · iexact H5
  isplitl [Hu]; · iexact Hu
  isplitl [Ha]; · iexact Ha
  iexists _, _; isplitr; swap; · iexact Hy
  ipureintro; rfl

theorem runG : (res c a2 a3 a4 a5 : sProp 𝕄) ⊢
    wp frame (wpE (defs₀ (F := F)) Variants.none c none) Set.univ (progG i a2 h2 a3 h3 a4 h4 a5 h5 uM (Memref.isWhole_whole _) aM (Memref.isWhole_whole _) yM (Memref.isWhole_whole _))
      (fun _ => res c a2 a3 a4 a5) := by
  unfold res owns progG progG1
  iintro ⟨H2, ⟨%d3, %f3, -, H3⟩, ⟨%d4, %f4, -, H4⟩, ⟨%d5, %f5, -, H5⟩, Hu, ⟨%da, %fa, -, Ha⟩, ⟨%dy, %fy, -, Hy⟩⟩
  by_cases h : k0_cond4 i = 1#1 <;>
  · sl_exec
    sl_step
    isplitl [H2]; · iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [Hu]; · iexact Hu
    isplitl [Ha]
    · iexists _, _; isplitr; swap; · iexact Ha
      ipureintro; rfl
    iexists _, _; isplitr; swap; · iexact Hy
    ipureintro; rfl

/-- The whole body, from buffers at any contents. -/
theorem kernelRun : (res c a2 a3 a4 a5 : sProp 𝕄) ⊢
    wp frame (wpE (defs₀ (F := F)) Variants.none c none) Set.univ (cc0_pq_packed_onehot i a2 h2 a3 h3 a4 h4 a5 h5 uM (Memref.isWhole_whole _) aM (Memref.isWhole_whole _) yM (Memref.isWhole_whole _))
      (fun _ => res c a2 a3 a4 a5) := by
  rw [wp_body]
  have X3 := runG (F := F) i c a2 h2 a3 h3 a4 h4 a5 h5
  dsimp only
  split_ifs with h1 h2' h3'
  · exact (runU i c a2 h2 a3 h3 a4 h4 a5 h5).trans (wp_mono _ _ _ fun _ => (runA i c a2 h2 a3 h3 a4 h4 a5 h5 h2').trans (wp_mono _ _ _ fun _ =>
      (runY i c a2 h2 a3 h3 a4 h4 a5 h5).trans (wp_mono _ _ _ fun _ => X3)))
  · exact (runU i c a2 h2 a3 h3 a4 h4 a5 h5).trans (wp_mono _ _ _ fun _ => (runA i c a2 h2 a3 h3 a4 h4 a5 h5 h2').trans (wp_mono _ _ _ fun _ => X3))
  · exact (runU i c a2 h2 a3 h3 a4 h4 a5 h5).trans (wp_mono _ _ _ fun _ => (runY i c a2 h2 a3 h3 a4 h4 a5 h5).trans (wp_mono _ _ _ fun _ => X3))
  · exact (runU i c a2 h2 a3 h3 a4 h4 a5 h5).trans (wp_mono _ _ _ fun _ => X3)
  · exact (runA i c a2 h2 a3 h3 a4 h4 a5 h5 (by assumption)).trans (wp_mono _ _ _ fun _ =>
      (runY i c a2 h2 a3 h3 a4 h4 a5 h5).trans (wp_mono _ _ _ fun _ => X3))
  · exact (runA i c a2 h2 a3 h3 a4 h4 a5 h5 (by assumption)).trans (wp_mono _ _ _ fun _ => X3)
  · exact (runY i c a2 h2 a3 h3 a4 h4 a5 h5).trans (wp_mono _ _ _ fun _ => X3)
  · exact X3

/-- The same with the rest of the program as a continuation. -/
theorem kernelRun_wand (K : PUnit → sProp 𝕄) : iprop(res c a2 a3 a4 a5 ∗ (∀ r, res c a2 a3 a4 a5 -∗ K r)) ⊢
    wp frame (wpE (defs₀ (F := F)) Variants.none c none) Set.univ (cc0_pq_packed_onehot i a2 h2 a3 h3 a4 h4 a5 h5 uM (Memref.isWhole_whole _) aM (Memref.isWhole_whole _) yM (Memref.isWhole_whole _)) K :=
  (sep_mono (kernelRun i c a2 h2 a3 h3 a4 h4 a5 h5) .rfl).trans (wp_wand_r _ _ _)

end Arms

/-! ## The proof data and the body obligation -/

variable (m : (ℓ : Loc nD τ sig) → Buf (Elt F) ℓ) (ρ : Dev nD → PrngReg)

/-- Every window is forgotten: an input's array is unchanged because nothing writes it back, and the result is not read. -/
def forgets0 : Fin 4 → Bool := fun _ => true

/-- The proof data on core `c`: the arrays as the region finds them, the scratch at some contents between points. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant between points, buffer by buffer. -/
theorem PhiA0_eq (c : Dev nD) :
    (Pipeline.ΦA spec0 c : sProp 𝕄)
      = iprop(((∃ d, owns (c : Thread nD τ) uM fullShare d) ∗ (∃ d, owns (c : Thread nD τ) aM fullShare d)
          ∗ (∃ d, owns (c : Thread nD τ) yM fullShare d)) ∗ ∃ r, prngReg c r) := by
  unfold Pipeline.ΦA
  rw [scopedRest0_eq]
  simp only [uM, aM, yM, owns_whole]
  try rfl

/-- What the body is called with at point `t`, and what it returns. -/
def bodyPrePost (c : Dev nD) (t : Fin cfg0.N) (s : Fin (cfg0.N + 1)) : sProp 𝕄 :=
  iprop((dats m 0 c).Φ s ∗ (dats m 0 c).owesAt () s
    ∗ (∃ d, owns (c : Thread nD τ) (win0_0.stage (cfg0.slots t 0)) fullShare d)
    ∗ (∃ d, owns (c : Thread nD τ) (win0_1.stage (cfg0.slots t 1)) fullShare d)
    ∗ (∃ d, owns (c : Thread nD τ) (win0_2.stage (cfg0.slots t 2)) fullShare d)
    ∗ (∃ d, owns (c : Thread nD τ) (win0_3.stage (cfg0.slots t 3)) fullShare d))

theorem sound_body (c : Dev nD) (t : Fin cfg0.N) :
    bodyPrePost m c t t.castSucc ⊢ wp frame (wpE (defs₀ (F := F)) Variants.none c none) Set.univ (bodyAt0 t) (fun _ => bodyPrePost m c t t.succ) := by
  have hrun := kernelRun_wand (F := F) (grid0.coords t) c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))
  unfold bodyPrePost
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA0_eq]
  iintro ⟨⟨⟨Hu, Ha, Hy⟩, Hg⟩, HO, H0, H1, H2, H3⟩
  iapply (hrun _)
  isplitl [H0 H1 H2 H3 Hu Ha Hy]
  · unfold res
    isplitl [H0]; · iexact H0
    isplitl [H1]; · iexact H1
    isplitl [H2]; · iexact H2
    isplitl [H3]; · iexact H3
    isplitl [Hu]; · iexact Hu
    isplitl [Ha]; · iexact Ha
    iexact Hy
  unfold res
  iintro %_ ⟨H0, H1, H2, H3, Hu, Ha, Hy⟩
  isplitl [Hu Ha Hy Hg]
  · isplitl [Hu Ha Hy]
    · isplitl [Hu]; · iexact Hu
      isplitl [Ha]; · iexact Ha
      iexact Hy
    iexact Hg
  isplitl [HO]; · iexact HO
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame claim of the compiled program, at any values. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (Pipeline.mem_restRefs_of main_arg0 (by decide) (by decide))).trans (V_main_arg0 m c),
     (Pipeline.RDat.FramePost.arr_in h.1 c 1 rfl).trans ((A_eq m c 1).trans (V_main_arg1 m c)),
     (Pipeline.RDat.FramePost.arr_in h.1 c 2 rfl).trans ((A_eq m c 2).trans (V_main_arg2 m c))⟩, h.2⟩) (run_main m ρ)

end Cert.Kernel.Hand

end
-- ==== Proof.Spec.lean ====
/-
  The result as plain mathematics: per group of 96 subspaces the sum of the table entries the codes choose, times the group's
  scale, summed over the 15 groups.
-/
module

public import Idealize.ShloMosaic.Lib.Pointwise

@[expose] public section

noncomputable section

namespace Cert.Spec

open Idealize.ShloMosaic

/-- The code of subspace `m`: the low half of its byte if even, the high half if odd. -/
def code (X : (⟨3, ![3, 128, 720]⟩ : Shape).Idx → BitVec 8) (b : Fin 3) (s : Fin 128) (m : Fin 1440) : BitVec 8 :=
  if m.val % 2 = 0 then X (ix3 b s ⟨m.val / 2, by omega⟩) &&& 15#8 else X (ix3 b s ⟨m.val / 2, by omega⟩) >>> 4

theorem code_lt (X : (⟨3, ![3, 128, 720]⟩ : Shape).Idx → BitVec 8) (b : Fin 3) (s : Fin 128) (m : Fin 1440) : (code X b s m).toNat < 16 := by
  have h1 : ∀ c : BitVec 8, (c &&& 15#8).toNat < 16 ∧ (c >>> 4).toNat < 16 := by decide +kernel
  unfold code
  split
  · exact (h1 _).1
  · exact (h1 _).2

/-- The table entry that subspace `m`'s code chooses. -/
def entry (X : (⟨3, ![3, 128, 720]⟩ : Shape).Idx → BitVec 8) (T : (⟨3, ![1440, 16, 5120]⟩ : Shape).Idx → BitVec 8) (b : Fin 3) (s : Fin 128) (n : Fin 5120) (m : Fin 1440) : ℤ :=
  (T (ix3 m ⟨(code X b s m).toNat, code_lt X b s m⟩ n)).toInt

/-- A group's sum. -/
def gs (X : (⟨3, ![3, 128, 720]⟩ : Shape).Idx → BitVec 8) (T : (⟨3, ![1440, 16, 5120]⟩ : Shape).Idx → BitVec 8) (b : Fin 3) (s : Fin 128) (n : Fin 5120) (g : Fin 15) : ℤ :=
  ∑ j : Fin 96, entry X T b s n ⟨96 * g.val + j.val, by omega⟩

/-- The result. -/
def out (X : (⟨3, ![3, 128, 720]⟩ : Shape).Idx → BitVec 8) (T : (⟨3, ![1440, 16, 5120]⟩ : Shape).Idx → BitVec 8) (SC : (⟨2, ![15, 5120]⟩ : Shape).Idx → EReal) :
    (⟨3, ![3, 128, 5120]⟩ : Shape).Idx → EReal :=
  fun i => ∑ g : Fin 15, ((gs X T (i 0) (i 1) (i 2) g : ℝ) : EReal) * SC (ix2 g (i 2))

end Cert.Spec
-- ==== Proof.GroupMath.lean ====
/-
  The arithmetic of one group of subspaces: three integer sums packed into two products come apart exactly.
-/
module

public import Idealize.ShloMosaic.Lib.Pointwise

@[expose] public section

noncomputable section

namespace Cert.GroupMath

open Idealize.ShloMosaic

/-- Rounding an integer plus less than a half. -/
theorem roundHalfEven_near (n : ℤ) (e : ℝ) (h : |e| < 1 / 2) : Ideal.roundHalfEven ((n : ℝ) + e) = n := by
  rw [abs_lt] at h
  obtain ⟨h1, h2⟩ := h
  unfold Ideal.roundHalfEven
  rcases le_or_gt 0 e with he | he
  · have hf : ⌊(n : ℝ) + e⌋ = n := by rw [Int.floor_eq_iff]; constructor <;> linarith
    simp only [hf]
    rw [if_pos (by linarith)]
  · have hf : ⌊(n : ℝ) + e⌋ = n - 1 := by rw [Int.floor_eq_iff]; push_cast; constructor <;> linarith
    simp only [hf]
    push_cast
    rw [if_neg (by linarith), if_pos (by linarith)]
    ring

/-- The third sum out of the two products. -/
theorem third (S0 S1 S2 : ℤ) (h : |S0| ≤ 12288) :
    Ideal.liftRound Ideal.roundHalfEven (((((1 / 128 : ℝ) * S1 + 1 * S2 : ℝ)) : EReal) - (((-(1 / 32768) : ℝ) * S0 + (1 / 128) * S1 : ℝ) : EReal))
      = (((S2 : ℝ)) : EReal) := by
  rw [← EReal.coe_sub, show ((1 / 128 : ℝ) * S1 + 1 * S2 - (-(1 / 32768) * S0 + 1 / 128 * S1)) = (S2 : ℝ) + (1 / 32768) * S0 by ring,
    Ideal.liftRound_coe, roundHalfEven_near]
  have h' : |(S0 : ℝ)| ≤ 12288 := by exact_mod_cast h
  rw [abs_mul, abs_of_pos (by norm_num : (0 : ℝ) < 1 / 32768)]
  linarith

/-- The second sum, scaled. -/
theorem second (S1 S2 : ℤ) :
    ((((1 / 128 : ℝ) * S1 + 1 * S2 : ℝ)) : EReal) - (((S2 : ℝ)) : EReal) = (((1 / 128 : ℝ) * S1 : ℝ) : EReal) := by
  rw [← EReal.coe_sub]; congr 1; ring

/-- The first sum, scaled. -/
theorem first (S0 S1 : ℤ) :
    (((1 / 128 : ℝ) * S1 : ℝ) : EReal) - (((-(1 / 32768) : ℝ) * S0 + (1 / 128) * S1 : ℝ) : EReal) = (((1 / 32768 : ℝ) * S0 : ℝ) : EReal) := by
  rw [← EReal.coe_sub]; congr 1; ring

/-- A finite sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A scale's factor out of a finite sum. -/
theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.2 hc) (EReal.coe_ne_top _), ih]

/-- A sum over a group's rows is a sum over its subspaces and centroids. -/
theorem sum_rows {M : Type} [AddCommMonoid M] (f : Fin 96 → Fin 16 → M) :
    ∑ k : Fin 1536, f ⟨k.val / 16, by omega⟩ ⟨k.val % 16, Nat.mod_lt _ (by decide)⟩ = ∑ j : Fin 96, ∑ r : Fin 16, f j r := by
  rw [← Fintype.sum_prod_type' (f := f)]
  refine (Fintype.sum_equiv (finProdFinEquiv (m := 96) (n := 16)) _ _ fun x => ?_).symm
  have h1 : (finProdFinEquiv (m := 96) (n := 16) x).val = x.2.val + 16 * x.1.val := rfl
  congr 1 <;> apply Fin.ext <;> simp only [h1] <;> omega

/-- Even and odd subspaces of a group. -/
theorem sum_pairs {M : Type} [AddCommMonoid M] (f : Fin 96 → M) :
    ∑ j : Fin 96, f j = ∑ j : Fin 48, f ⟨2 * j.val, by omega⟩ + ∑ j : Fin 48, f ⟨2 * j.val + 1, by omega⟩ := by
  rw [← Finset.sum_add_distrib]
  have := Fintype.sum_equiv (finProdFinEquiv (m := 48) (n := 2)) (fun x => f (finProdFinEquiv (m := 48) (n := 2) x)) f fun x => rfl
  rw [← this, Fintype.sum_prod_type]
  refine Finset.sum_congr rfl fun j _ => ?_
  rw [Fin.sum_univ_two]
  exact congrArg₂ (· + ·) (congrArg f (Fin.ext (by show 0 + 2 * j.val = 2 * j.val; omega))) (congrArg f (Fin.ext (by show 1 + 2 * j.val = 2 * j.val + 1; omega)))

/-- The row of two indicators against a group's table. -/
theorem sum_onehot2 (A : Fin 96 → Fin 16 → ℤ) (x y : Fin 96 → Fin 16) (u v : ℝ) :
    ∑ j : Fin 96, ∑ r : Fin 16, (((if x j = r then u else 0 : ℝ) : EReal) + ((if y j = r then v else 0 : ℝ) : EReal)) * (((A j r : ℤ) : ℝ) : EReal)
      = ((u * ((∑ j, A j (x j) : ℤ) : ℝ) + v * ((∑ j, A j (y j) : ℤ) : ℝ) : ℝ) : EReal) := by
  have h2 : ∀ j, ∑ r, (((if x j = r then u else 0 : ℝ) : EReal) + ((if y j = r then v else 0 : ℝ) : EReal)) * (((A j r : ℤ) : ℝ) : EReal)
      = ((u * (A j (x j) : ℝ) + v * (A j (y j) : ℝ) : ℝ) : EReal) := by
    intro j
    simp only [← EReal.coe_add, ← EReal.coe_mul]
    rw [← coe_sum]
    congr 1
    simp only [add_mul, Finset.sum_add_distrib, ite_mul, zero_mul, Finset.sum_ite_eq, Finset.mem_univ, if_true]
  simp only [h2]
  rw [← coe_sum]
  congr 1
  push_cast
  rw [Finset.sum_add_distrib, Finset.mul_sum, Finset.mul_sum]

/-- A group's sum of table entries is small. -/
theorem sum_abs_le (f : Fin 96 → ℤ) (h : ∀ j, |f j| ≤ 128) : |∑ j, f j| ≤ 12288 := by
  refine (Finset.abs_sum_le_sum_abs _ _).trans ((Finset.sum_le_sum fun j _ => h j).trans ?_)
  simp

/-! ## Constants -/

theorem c_neg : Ideal.ofBits .bf16 0xB800#16 = ((-(1 / 32768) : ℝ) : EReal) := by
  simp [Ideal.ofBits, Ideal.ieee, -EReal.coe_mul]; norm_num [← EReal.coe_mul]
theorem c_128 : Ideal.ofBits .bf16 0x3C00#16 = ((1 / 128 : ℝ) : EReal) := by
  simp [Ideal.ofBits, Ideal.ieee, -EReal.coe_mul]; norm_num [← EReal.coe_mul]
theorem c_1 : Ideal.ofBits .bf16 0x3F80#16 = ((1 : ℝ) : EReal) := by
  simp [Ideal.ofBits, Ideal.ieee, -EReal.coe_mul]; norm_num [← EReal.coe_mul]
theorem k_15 : Ideal.ofBits .f32 0x47000000#32 = ((32768 : ℝ) : EReal) := by
  simp [Ideal.ofBits, Ideal.ieee, -EReal.coe_mul]; norm_num [← EReal.coe_mul]
theorem k_7 : Ideal.ofBits .f32 0x43000000#32 = ((128 : ℝ) : EReal) := by
  simp [Ideal.ofBits, Ideal.ieee, -EReal.coe_mul]; norm_num [← EReal.coe_mul]

end Cert.GroupMath
-- ==== Proof.IdealArms.lean ====
/-
  The body of the kernel function, cut at its conditionals: the arm that packs the codes, the arm that builds one slab of the
  left-hand side, the arm that zeroes the accumulator, the three group products, and the arm that writes the result. The printed
  function is these programs in order (`wp_body`).
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The three scratch buffers, whole: the packed codes, the left-hand side, the accumulator. -/
abbrev uM : Memref sig .tc .vmem S64x1536 .i32 := Memref.whole cc0_scratch0
abbrev aM : Memref sig .tc .vmem S5x256x4608 .bf16 := Memref.whole cc0_scratch1
abbrev yM : Memref sig .tc .vmem S3x128x512 .f32 := Memref.whole cc0_scratch2

/-- Memref `M`'s buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The condition under which the codes are packed, as the kernel computes it. -/
def condU (i : grid0.Coords) : BitVec 1 :=
  let v3 : BitVec 32 := Scalar.extui (Scalar.andi (Scalar.cmpi .eq (BitVec.ofNat 32 (i 0).val) 0#32) (Scalar.cmpi .eq (BitVec.ofNat 32 (i 1).val) 0#32))
  Scalar.cmpi .ne v3 0#32

/-- The condition under which the accumulator is zeroed, as the kernel computes it. -/
def condY (i : grid0.Coords) : BitVec 1 :=
  let v9 : BitVec 32 := Scalar.extui (Scalar.cmpi .eq (BitVec.ofNat 32 (i 1).val) 0#32)
  Scalar.cmpi .ne v9 0#32

/-- Packs the codes into the first scratch. -/
def progU (i : grid0.Coords) (arg2 : Memref sig .tc .vmem S3x720x128 .i8) (harg2 : arg2.IsWhole) (arg3 : Memref sig .tc .vmem S288x16x512 .i8) (harg3 : arg3.IsWhole) (arg4 : Memref sig .tc .vmem S15x512 .f32) (harg4 : arg4.IsWhole) (arg5 : Memref sig .tc .vmem S3x128x512 .bf16) (harg5 : arg5.IsWhole) (arg6 : Memref sig .tc .vmem S64x1536 .i32) (harg6 : arg6.IsWhole) (arg7 : Memref sig .tc .vmem S5x256x4608 .bf16) (harg7 : arg7.IsWhole) (arg8 : Memref sig .tc .vmem S3x128x512 .f32) (harg8 : arg8.IsWhole) :
    Prog (TpuEff nD τ sig (Elt F) Λ₀ .tc) PUnit := do
  let v467 : IVec S64x128 32 ← k0_part8 i arg2 harg2 arg3 harg3 arg4 harg4 arg5 harg5 arg6 harg6 arg7 harg7 arg8 harg8
  Prog.lift (.store arg6 (Rect.unit (s := S64x1536) ![0, 1408] S64x128.size inb_S64x1536_S64x128_0_1408) (k0_pay257 v467) Finset.univ (View.stores_vmem_bits_univ h_S64x128 rfl) (.inl rfl))

/-- Builds one slab of the left-hand side in the second scratch. -/
def progA (i : grid0.Coords) (arg2 : Memref sig .tc .vmem S3x720x128 .i8) (harg2 : arg2.IsWhole) (arg3 : Memref sig .tc .vmem S288x16x512 .i8) (harg3 : arg3.IsWhole) (arg4 : Memref sig .tc .vmem S15x512 .f32) (harg4 : arg4.IsWhole) (arg5 : Memref sig .tc .vmem S3x128x512 .bf16) (harg5 : arg5.IsWhole) (arg6 : Memref sig .tc .vmem S64x1536 .i32) (harg6 : arg6.IsWhole) (arg7 : Memref sig .tc .vmem S5x256x4608 .bf16) (harg7 : arg7.IsWhole) (arg8 : Memref sig .tc .vmem S3x128x512 .f32) (harg8 : arg8.IsWhole) (k0_h2 : k0_cond2 i = 1#1) :
    Prog (TpuEff nD τ sig (Elt F) Λ₀ .tc) PUnit := do
  let arg1 : BitVec 32 := BitVec.ofNat 32 (i 1).val
  let ⟨v137, v140, v2559, v2564, v2567, v2568, v2569⟩ : Σ' (v137 : IVec S64x128 32) (v140 : IVec S128x128 16) (v2559 : IVec S128x128 1) (v2564 : IVec S128x128 1) (v2567 : IVec S128x128 1) (v2568 : FVec F S128x128 .bf16), FVec F S128x128 .bf16 ← k0_part79 i arg2 harg2 arg3 harg3 arg4 harg4 arg5 harg5 arg6 harg6 arg7 harg7 arg8 harg8 arg1 k0_h2
  let ⟨v2591, v2608⟩ : Σ' (v2591 : BitVec 32), BitVec 32 ← k0_part69 i arg2 harg2 arg3 harg3 arg4 harg4 arg5 harg5 arg6 harg6 arg7 harg7 arg8 harg8 arg1 k0_h2 v2559 v2564 v2567 v2568 v2569
  let ⟨v2643, v2646, v2649, cst_1156, cst_1157⟩ : Σ' (v2643 : IVec S128x128 1) (v2646 : IVec S128x128 1) (v2649 : FVec F S128x128 .bf16) (cst_1156 : F .bf16), F .bf16 ← k0_part70 i arg2 harg2 arg3 harg3 arg4 harg4 arg5 harg5 arg6 harg6 arg7 harg7 arg8 harg8 k0_h2 v137 v140 v2591 v2608
  let ⟨v2670, v2689⟩ : Σ' (v2670 : BitVec 32), BitVec 32 ← k0_part71 i arg2 harg2 arg3 harg3 arg4 harg4 arg5 harg5 arg6 harg6 arg7 harg7 arg8 harg8 arg1 k0_h2 v2643 v2646 v2649 cst_1156 cst_1157
  let ⟨v2722, v2725, v2728, v2731⟩ : Σ' (v2722 : IVec S128x128 1) (v2725 : IVec S128x128 1) (v2728 : FVec F S128x128 .bf16), FVec F S128x128 .bf16 ← k0_part72 i arg2 harg2 arg3 harg3 arg4 harg4 arg5 harg5 arg6 harg6 arg7 harg7 arg8 harg8 k0_h2 v137 v140 v2670 v2689
  let ⟨v2749, v2770⟩ : Σ' (v2749 : BitVec 32), Vec F S64x128 .i32 ← k0_part73 i arg2 harg2 arg3 harg3 arg4 harg4 arg5 harg5 arg6 harg6 arg7 harg7 arg8 harg8 arg1 k0_h2 v2722 v2725 v2728 v2731
  let ⟨v2801, v2804, v2811, cst_1226, cst_1227⟩ : Σ' (v2801 : IVec S128x128 1) (v2804 : IVec S128x128 1) (v2811 : FVec F S128x128 .bf16) (cst_1226 : F .bf16), F .bf16 ← k0_part74 i arg2 harg2 arg3 harg3 arg4 harg4 arg5 harg5 arg6 harg6 arg7 harg7 arg8 harg8 v137 v140 v2749 v2770
  let ⟨v2828, v2849, v2851⟩ : Σ' (v2828 : BitVec 32) (v2849 : Vec F S64x128 .i32), IVec S64x128 32 ← k0_part75 i arg2 harg2 arg3 harg3 arg4 harg4 arg5 harg5 arg6 harg6 arg7 harg7 arg8 harg8 arg1 k0_h2 v137 v2801 v2804 v2811 cst_1226 cst_1227
  let ⟨v2883, v2890, v2893⟩ : Σ' (v2883 : IVec S128x128 1) (v2890 : FVec F S128x128 .bf16), FVec F S128x128 .bf16 ← k0_part76 i arg2 harg2 arg3 harg3 arg4 harg4 arg5 harg5 arg6 harg6 arg7 harg7 arg8 harg8 v140 v2828 v2849 v2851
  let ⟨v2907, v2928, v2930, c128_i32_1278, v2931⟩ : Σ' (v2907 : BitVec 32) (v2928 : Vec F S64x128 .i32) (v2930 : IVec S64x128 32) (c128_i32_1278 : BitVec 32), BitVec 1 ← k0_part77 i arg2 harg2 arg3 harg3 arg4 harg4 arg5 harg5 arg6 harg6 arg7 harg7 arg8 harg8 arg1 k0_h2 v137 v2883 v2890 v2893
  let ⟨v2962, v2969, v2972, cst_1297, v2973⟩ : Σ' (v2962 : IVec S128x128 1) (v2969 : FVec F S128x128 .bf16) (v2972 : FVec F S128x128 .bf16) (cst_1297 : F .bf16), FVec F S128x128 .bf16 ← k0_part78 i arg2 harg2 arg3 harg3 arg4 harg4 arg5 harg5 arg6 harg6 arg7 harg7 arg8 harg8 v140 v2907 v2928 v2930 c128_i32_1278 v2931
  let v2978 : Vec F S1x128x128 .bf16 ← Prog.lift (.load arg7 (Rect.unit (s := S5x256x4608) (k0_off72 i) S1x128x128.size (k0_off72_inb i k0_h2)).toLoadRect (View.loadsAt_vmem h_S1x128x128))
  Prog.lift (.store arg7 (Rect.unit (s := S5x256x4608) (k0_off72 i) S1x128x128.size (k0_off72_inb i k0_h2)) (k0_pay258 v2969) Finset.univ (View.stores_vmem h_S1x128x128 (harg7.storeExact_slice rfl _ (k0_off72_packedbf16 i k0_h2)) (fun _ => rfl)) (.inl rfl))
  let v2982 : Vec F S1x128x128 .bf16 ← Prog.lift (.load arg7 (Rect.unit (s := S5x256x4608) (k0_off73 i) S1x128x128.size (k0_off73_inb i k0_h2)).toLoadRect (View.loadsAt_vmem h_S1x128x128))
  Prog.lift (.store arg7 (Rect.unit (s := S5x256x4608) (k0_off73 i) S1x128x128.size (k0_off73_inb i k0_h2)) (k0_pay259 v2962 v2972 cst_1297 v2973) Finset.univ (View.stores_vmem h_S1x128x128 (harg7.storeExact_slice rfl _ (k0_off73_packedbf16 i k0_h2)) (fun _ => rfl)) (.inl rfl))

/-- Zeroes the accumulator. -/
def progY (i : grid0.Coords) (arg2 : Memref sig .tc .vmem S3x720x128 .i8) (harg2 : arg2.IsWhole) (arg3 : Memref sig .tc .vmem S288x16x512 .i8) (harg3 : arg3.IsWhole) (arg4 : Memref sig .tc .vmem S15x512 .f32) (harg4 : arg4.IsWhole) (arg5 : Memref sig .tc .vmem S3x128x512 .bf16) (harg5 : arg5.IsWhole) (arg6 : Memref sig .tc .vmem S64x1536 .i32) (harg6 : arg6.IsWhole) (arg7 : Memref sig .tc .vmem S5x256x4608 .bf16) (harg7 : arg7.IsWhole) (arg8 : Memref sig .tc .vmem S3x128x512 .f32) (harg8 : arg8.IsWhole) :
    Prog (TpuEff nD τ sig (Elt F) Λ₀ .tc) PUnit := do
  let v138 : Vec F S3x128x512 .f32 ← Prog.lift (.load arg8 (Rect.unit (s := S3x128x512) ![0, 0, 0] S3x128x512.size inb_S3x128x512_S3x128x512_0_0_0).toLoadRect (View.loadsAt_vmem h_S3x128x512))
  Prog.lift (.store arg8 (Rect.unit (s := S3x128x512) ![0, 0, 0] S3x128x512.size inb_S3x128x512_S3x128x512_0_0_0) (k0_pay260 (F := F)) Finset.univ (View.stores_vmem_bits_univ h_S3x128x512 rfl) (.inl rfl))

/-- The first group's loads. -/
def progG1 (i : grid0.Coords) (arg2 : Memref sig .tc .vmem S3x720x128 .i8) (harg2 : arg2.IsWhole) (arg3 : Memref sig .tc .vmem S288x16x512 .i8) (harg3 : arg3.IsWhole) (arg4 : Memref sig .tc .vmem S15x512 .f32) (harg4 : arg4.IsWhole) (arg5 : Memref sig .tc .vmem S3x128x512 .bf16) (harg5 : arg5.IsWhole) (arg6 : Memref sig .tc .vmem S64x1536 .i32) (harg6 : arg6.IsWhole) (arg7 : Memref sig .tc .vmem S5x256x4608 .bf16) (harg7 : arg7.IsWhole) (arg8 : Memref sig .tc .vmem S3x128x512 .f32) (harg8 : arg8.IsWhole) :
    Prog (TpuEff nD τ sig (Elt F) Λ₀ .tc) (Σ' (arg1 : BitVec 32) (v21 : FVec F S128x512 .f32) (v22 : FVec F S128x512 .f32) (v27 : Vec F S1x512 .f32), FVec F S128x512 .f32) := do
  let arg1 : BitVec 32 := BitVec.ofNat 32 (i 1).val
  let v11 : Vec F S96x16x512 .i8 ← Prog.lift (.load arg3 (Rect.unit (s := S288x16x512) ![0, 0, 0] S96x16x512.size inb_S288x16x512_S96x16x512_0_0_0).toLoadRect (View.loadsAt_vmem h_S96x16x512))
  let v15 : Vec F S1x256x1536 .bf16 ← Prog.lift (.load arg7 (Rect.unit (s := S5x256x4608) (k0_off74 i) S1x256x1536.size (k0_off74_inb i)).toLoadRect (View.loadsAt_vmem h_S1x256x1536))
  let v27 : Vec F S1x512 .f32 ← Prog.lift (.load arg4 (Rect.unit (s := S15x512) (k0_off75 i 0#32) S1x512.size (k0_off75_inb i 0)).toLoadRect (View.loadsAt_vmem h_S1x512))
  let v28 : Vec F S1x128x512 .f32 ← Prog.lift (.load arg8 (Rect.unit (s := S3x128x512) ![0, 0, 0] S1x128x512.size inb_S3x128x512_S1x128x512_0_0_0).toLoadRect (View.loadsAt_vmem h_S1x128x512))
  pure ⟨arg1, k0_pay264 v11 v15, k0_pay265 v11 v15, v27, k0_pay266 v11 v15 v27 v28⟩

/-- The rest of the three group products and, at the last step, the output. -/
def progG' (i : grid0.Coords) (arg2 : Memref sig .tc .vmem S3x720x128 .i8) (harg2 : arg2.IsWhole) (arg3 : Memref sig .tc .vmem S288x16x512 .i8) (harg3 : arg3.IsWhole) (arg4 : Memref sig .tc .vmem S15x512 .f32) (harg4 : arg4.IsWhole) (arg5 : Memref sig .tc .vmem S3x128x512 .bf16) (harg5 : arg5.IsWhole) (arg6 : Memref sig .tc .vmem S64x1536 .i32) (harg6 : arg6.IsWhole) (arg7 : Memref sig .tc .vmem S5x256x4608 .bf16) (harg7 : arg7.IsWhole) (arg8 : Memref sig .tc .vmem S3x128x512 .f32) (harg8 : arg8.IsWhole) (r : (Σ' (arg1 : BitVec 32) (v21 : FVec F S128x512 .f32) (v22 : FVec F S128x512 .f32) (v27 : Vec F S1x512 .f32), FVec F S128x512 .f32)) :
    Prog (TpuEff nD τ sig (Elt F) Λ₀ .tc) PUnit := do
  match r with
  | ⟨arg1, v21, v22, v27, v32⟩ => do
    let ⟨v62, v63, v64, v68⟩ : Σ' (v62 : FVec F S128x512 .f32) (v63 : FVec F S128x512 .f32) (v64 : FVec F S128x512 .f32), Vec F S1x512 .f32 ← k0_part81 i arg2 harg2 arg3 harg3 arg4 harg4 arg5 harg5 arg6 harg6 arg7 harg7 arg8 harg8 arg1 v21 v22 v27 v32
    let ⟨v100, v101⟩ : Σ' (v100 : FVec F S128x512 .f32), FVec F S128x512 .f32 ← k0_part82 i arg2 harg2 arg3 harg3 arg4 harg4 arg5 harg5 arg6 harg6 arg7 harg7 arg8 harg8 arg1 v62 v63 v64 v68
    let ⟨v135, c0_i32_76⟩ : Σ' (v135 : BitVec 32), BitVec 32 ← k0_part83 i arg2 harg2 arg3 harg3 arg4 harg4 arg5 harg5 arg6 harg6 arg7 harg7 arg8 harg8 arg1 v100 v101
    if k0_h4 : k0_cond4 i = 1#1 then do
      let v137 : Vec F S1x128x512 .f32 ← Prog.lift (.load arg8 (Rect.unit (s := S3x128x512) ![0, 0, 0] S1x128x512.size inb_S3x128x512_S1x128x512_0_0_0).toLoadRect (View.loadsAt_vmem h_S1x128x512))
      let v142 : Vec F S1x128x512 .bf16 ← Prog.lift (.load arg5 (Rect.unit (s := S3x128x512) ![0, 0, 0] S1x128x512.size inb_S3x128x512_S1x128x512_0_0_0).toLoadRect (View.loadsAt_vmem h_S1x128x512))
      Prog.lift (.store arg5 (Rect.unit (s := S3x128x512) ![0, 0, 0] S1x128x512.size inb_S3x128x512_S1x128x512_0_0_0) (k0_pay1 v137) Finset.univ (View.stores_vmem h_S1x128x512 (harg5.storeExact_slice rfl _ packedbf16_S3x128x512_S1x128x512_0_0_0) (fun _ => rfl)) (.inl rfl))
      let v145 : Vec F S1x128x512 .f32 ← Prog.lift (.load arg8 (Rect.unit (s := S3x128x512) ![1, 0, 0] S1x128x512.size inb_S3x128x512_S1x128x512_1_0_0).toLoadRect (View.loadsAt_vmem h_S1x128x512))
      let v150 : Vec F S1x128x512 .bf16 ← Prog.lift (.load arg5 (Rect.unit (s := S3x128x512) ![1, 0, 0] S1x128x512.size inb_S3x128x512_S1x128x512_1_0_0).toLoadRect (View.loadsAt_vmem h_S1x128x512))
      Prog.lift (.store arg5 (Rect.unit (s := S3x128x512) ![1, 0, 0] S1x128x512.size inb_S3x128x512_S1x128x512_1_0_0) (k0_pay2 v145) Finset.univ (View.stores_vmem h_S1x128x512 (harg5.storeExact_slice rfl _ packedbf16_S3x128x512_S1x128x512_1_0_0) (fun _ => rfl)) (.inl rfl))
      let v153 : Vec F S1x128x512 .f32 ← Prog.lift (.load arg8 (Rect.unit (s := S3x128x512) ![2, 0, 0] S1x128x512.size inb_S3x128x512_S1x128x512_2_0_0).toLoadRect (View.loadsAt_vmem h_S1x128x512))
      let v156 : Vec F S1x128x512 .bf16 ← Prog.lift (.load arg5 (Rect.unit (s := S3x128x512) ![2, 0, 0] S1x128x512.size inb_S3x128x512_S1x128x512_2_0_0).toLoadRect (View.loadsAt_vmem h_S1x128x512))
      Prog.lift (.store arg5 (Rect.unit (s := S3x128x512) ![2, 0, 0] S1x128x512.size inb_S3x128x512_S1x128x512_2_0_0) (k0_pay3 v153) Finset.univ (View.stores_vmem h_S1x128x512 (harg5.storeExact_slice rfl _ packedbf16_S3x128x512_S1x128x512_2_0_0) (fun _ => rfl)) (.inl rfl))
      pure ⟨⟩
    else do
      pure ⟨⟩
    pure ⟨⟩

/-- The three group products and, at the last step, the output. -/
def progG (i : grid0.Coords) (arg2 : Memref sig .tc .vmem S3x720x128 .i8) (harg2 : arg2.IsWhole) (arg3 : Memref sig .tc .vmem S288x16x512 .i8) (harg3 : arg3.IsWhole) (arg4 : Memref sig .tc .vmem S15x512 .f32) (harg4 : arg4.IsWhole) (arg5 : Memref sig .tc .vmem S3x128x512 .bf16) (harg5 : arg5.IsWhole) (arg6 : Memref sig .tc .vmem S64x1536 .i32) (harg6 : arg6.IsWhole) (arg7 : Memref sig .tc .vmem S5x256x4608 .bf16) (harg7 : arg7.IsWhole) (arg8 : Memref sig .tc .vmem S3x128x512 .f32) (harg8 : arg8.IsWhole) :
    Prog (TpuEff nD τ sig (Elt F) Λ₀ .tc) PUnit :=
  progG1 i arg2 harg2 arg3 harg3 arg4 harg4 arg5 harg5 arg6 harg6 arg7 harg7 arg8 harg8 >>= progG' i arg2 harg2 arg3 harg3 arg4 harg4 arg5 harg5 arg6 harg6 arg7 harg7 arg8 harg8

set_option maxRecDepth 65536 in
/-- The printed function runs its arms in order. -/
theorem wp_body (c : Dev nD) (i : grid0.Coords) (arg2 : Memref sig .tc .vmem S3x720x128 .i8) (harg2 : arg2.IsWhole) (arg3 : Memref sig .tc .vmem S288x16x512 .i8) (harg3 : arg3.IsWhole) (arg4 : Memref sig .tc .vmem S15x512 .f32) (harg4 : arg4.IsWhole) (arg5 : Memref sig .tc .vmem S3x128x512 .bf16) (harg5 : arg5.IsWhole) (arg6 : Memref sig .tc .vmem S64x1536 .i32) (harg6 : arg6.IsWhole) (arg7 : Memref sig .tc .vmem S5x256x4608 .bf16) (harg7 : arg7.IsWhole) (arg8 : Memref sig .tc .vmem S3x128x512 .f32) (harg8 : arg8.IsWhole) (K : PUnit → sProp 𝕄) :
    wp frame (wpE (defs₀ (F := F)) Variants.none c none) Set.univ (cc0_pq_packed_onehot i arg2 harg2 arg3 harg3 arg4 harg4 arg5 harg5 arg6 harg6 arg7 harg7 arg8 harg8) K
      = (let X3 := wp frame (wpE (defs₀ (F := F)) Variants.none c none) Set.univ (progG i arg2 harg2 arg3 harg3 arg4 harg4 arg5 harg5 arg6 harg6 arg7 harg7 arg8 harg8) K
         let X2 := if condY i = 1#1 then
           wp frame (wpE (defs₀ (F := F)) Variants.none c none) Set.univ (progY i arg2 harg2 arg3 harg3 arg4 harg4 arg5 harg5 arg6 harg6 arg7 harg7 arg8 harg8) (fun _ => X3) else X3
         let X1 := if k0_h2 : k0_cond2 i = 1#1 then
           wp frame (wpE (defs₀ (F := F)) Variants.none c none) Set.univ (progA i arg2 harg2 arg3 harg3 arg4 harg4 arg5 harg5 arg6 harg6 arg7 harg7 arg8 harg8 k0_h2) (fun _ => X2) else X2
         if condU i = 1#1 then
           wp frame (wpE (defs₀ (F := F)) Variants.none c none) Set.univ (progU i arg2 harg2 arg3 harg3 arg4 harg4 arg5 harg5 arg6 harg6 arg7 harg7 arg8 harg8) (fun _ => X1) else X1) := by
  have hG : wp frame (wpE (defs₀ (F := F)) Variants.none c none) Set.univ (cc0_pq_packed_onehot i arg2 harg2 arg3 harg3 arg4 harg4 arg5 harg5 arg6 harg6 arg7 harg7 arg8 harg8) K
      = wp frame (wpE (defs₀ (F := F)) Variants.none c none) Set.univ (k0_part80 i arg2 harg2 arg3 harg3 arg4 harg4 arg5 harg5 arg6 harg6 arg7 harg7 arg8 harg8) fun r =>
        wp frame (wpE (defs₀ (F := F)) Variants.none c none) Set.univ (progG' i arg2 harg2 arg3 harg3 arg4 harg4 arg5 harg5 arg6 harg6 arg7 harg7 arg8 harg8 r) K := by
    rw [cc0_pq_packed_onehot_eq_skeleton]
    unfold cc0_pq_packed_onehot_skel
    rw [wp_bind]
    rfl
  have hX : wp frame (wpE (defs₀ (F := F)) Variants.none c none) Set.univ (progG i arg2 harg2 arg3 harg3 arg4 harg4 arg5 harg5 arg6 harg6 arg7 harg7 arg8 harg8) K
      = wp frame (wpE (defs₀ (F := F)) Variants.none c none) Set.univ (progG1 i arg2 harg2 arg3 harg3 arg4 harg4 arg5 harg5 arg6 harg6 arg7 harg7 arg8 harg8) fun r =>
        wp frame (wpE (defs₀ (F := F)) Variants.none c none) Set.univ (progG' i arg2 harg2 arg3 harg3 arg4 harg4 arg5 harg5 arg6 harg6 arg7 harg7 arg8 harg8 r) K := by
    unfold progG
    rw [wp_bind]
  rw [hG, hX]
  generalize (fun r => wp frame (wpE (defs₀ (F := F)) Variants.none c none) Set.univ (progG' i arg2 harg2 arg3 harg3 arg4 harg4 arg5 harg5 arg6 harg6 arg7 harg7 arg8 harg8 r) K) = K'
  rw [k0_part80_eq_skeleton]
  unfold k0_part80_skel
  by_cases h1 : condU i = 1#1 <;> by_cases h2 : k0_cond2 i = 1#1 <;> by_cases h3 : condY i = 1#1 <;>
    have h1' := h1 <;> have h3' := h3 <;> unfold condU at h1' <;> unfold condY at h3' <;>
    simp only [h1, h2, h3, h1', h3', dif_pos, dif_neg, if_pos, if_neg, not_false_eq_true, wp_bind, progU, progA, progY, progG1]

end Cert.KernelIdeal.Hand

end
-- ==== Proof.IdealSpec.lean ====
/-
  What the body's stores are worth, element by element: the packed codes and the left-hand side's blocks as plain functions of
  an index. Every statement here is about the payload expressions alone.
-/
module

public import proofs.«01_k».proof.Proof.Gen.KernelIdeal.Skeleton
public import Idealize.ShloMosaic.Lib.Pointwise
public import Idealize.ShloMosaic.Lib.BitcastPair
public import Idealize.ShloMosaic.Lib.VecWindow

@[expose] public section

noncomputable section

namespace Cert.KernelIdeal.Hand

open Cert.KernelIdeal Cert.KernelIdeal.Gen
open Idealize.ShloMosaic

variable {F : FTy → Type} [FloatOps F]

/-! ## The packed codes -/

/-- The packed word of row `s` and subspace `m`: the low or the high half of the packed byte's word, 15 bits. -/
def pk (w : IVec S128x768 32) (s : Fin 128) (m : Fin 1536) : BitVec 16 :=
  ((IntOp.shrsi .vector (w (ix2 s ⟨m.val / 2, by omega⟩)) (BitVec.ofNat 32 (16 * (m.val % 2)))) &&& 32767#32).setWidth 16

/-- The packed codes as the scratch holds them: rows `2r` and `2r+1` share a word. -/
def uSpec (w : IVec S128x768 32) : S64x1536.Idx → BitVec 32 := fun j =>
  pk w ⟨2 * (j 0).val + 1, by have := (j 0).isLt; change _ < 64 at this; omega⟩ (j 1)
    ++ pk w ⟨2 * (j 0).val, by have := (j 0).isLt; change _ < 64 at this; omega⟩ (j 1)

/-- Half a block of the packed codes, a halfword per row and subspace. -/
def uHalf (w : IVec S128x768 32) (o : ℕ) (h : S128x768.Slices ![0, o] S128x128) (half : BitVec 32) : IVec S128x128 16 :=
  have v176 : IVec S128x128 32 := iota .tc S128x128 32 [1] iota_S128x128_d1_w32
  have v177 : IVec S128x128 32 := extractStridedSlice S128x128 ![0, o] w h
  have v178 : IVec S128x128 32 := broadcast S128x128 1#32
  have v179 : IVec S128x128 32 := shrsi v176 v178
  have v180 : IVec S128x128 32 := broadcast S128x128 half
  have v181 : IVec S128x128 32 := addi v179 v180
  have v182 : IVec S128x128 32 := broadcast S128x128 0#32
  have v183 : IVec S128x128 1 := cmpi .slt v181 v182
  have v184 : IVec S128x128 32 := broadcast S128x128 128#32
  have v185 : IVec S128x128 32 := addi v181 v184
  have v186 : IVec S128x128 32 := select v183 v185 v181
  have v187 : IVec S128x128x1 32 := shapeCast S128x128x1 v186 shapeCasts_S128x128_S128x128x1
  have v188 : IVec S128x128 32 := shapeCast S128x128 v187 shapeCasts_S128x128x1_S128x128
  have v189 : IVec S128x128 32 := dynamicGather 1 v177 v188
  have v190 : IVec S128x128 32 := broadcast S128x128 1#32
  have v191 : IVec S128x128 32 := andi v176 v190
  have v192 : IVec S128x128 32 := broadcast S128x128 16#32
  have v193 : IVec S128x128 32 := muli v191 v192
  have v194 : IVec S128x128 32 := shrsi v189 v193
  have v195 : IVec S128x128 32 := broadcast S128x128 32767#32
  have v196 : IVec S128x128 32 := andi v194 v195
  trunci 16 v196 natLt_16_32

/-- Half a block of the packed codes: the payload of each of the twelve stores. -/
def uPiece (w : IVec S128x768 32) (o : ℕ) (h : S128x768.Slices ![0, o] S128x128) (half : BitVec 32) : IVec S64x128 32 :=
  shapeCast S64x128 (bitcast S64x128 32 (uHalf w o h half) bitcasts_S128x128_w16_S64x128_w32) shapeCasts_S64x128_S64x128

/-- Two rows of halfwords as a row of words, at an index. -/
theorem bitcast_rows32 (x : IVec S128x128 16) (r : Fin 64) (l : Fin 128) :
    bitcast S64x128 32 x bitcasts_S128x128_w16_S64x128_w32 (ix2 r l)
      = x (ix2 ⟨2 * r.val + 1, by omega⟩ l) ++ x (ix2 ⟨2 * r.val, by omega⟩ l) := by
  rw [bitcast_16_32]
  congr 2 <;> refine funext fun a => ?_ <;> match a with
    | ⟨0, _⟩ => exact Fin.ext (Shape.Bitcasts.srcIdx_row _ _ _ _ _ rfl)
    | ⟨1, _⟩ => exact Fin.ext (Shape.Bitcasts.srcIdx_other _ _ _ _ _ (by show ¬(1 + 2 = 2); decide))

/-- A row of words as two rows of halfwords, at an index. -/
theorem bitcast_rows16 (x : IVec S64x128 32) (R l : Fin 128) :
    bitcast S128x128 16 x bitcasts_S64x128_w32_S128x128_w16 (ix2 R l)
      = (x (ix2 ⟨R.val / 2, by omega⟩ l)).extractLsb' (16 * (R.val % 2)) 16 := by
  rw [bitcast_32_16]
  have e : (S128x128.row (ix2 R l)) = R.val := rfl
  congr 1
  refine congrArg x (funext fun a => ?_)
  match a with
    | ⟨0, _⟩ => exact Fin.ext (Shape.Bitcasts.srcIdx_row _ _ _ _ _ rfl)
    | ⟨1, _⟩ => exact Fin.ext (Shape.Bitcasts.srcIdx_other _ _ _ _ _ (by show ¬(1 + 2 = 2); decide))

/-- The lane a packed half block gathers from. -/
theorem uLane : ∀ (l : Fin 128) (hf : Fin 2),
    (Scalar.select (IntOp.cmpi .slt (IntOp.addi (IntOp.shrsi .vector (BitVec.ofNat 32 l.val) 1#32) (BitVec.ofNat 32 (64 * hf.val))) 0#32)
      (IntOp.addi (IntOp.addi (IntOp.shrsi .vector (BitVec.ofNat 32 l.val) 1#32) (BitVec.ofNat 32 (64 * hf.val))) 128#32)
      (IntOp.addi (IntOp.shrsi .vector (BitVec.ofNat 32 l.val) 1#32) (BitVec.ofNat 32 (64 * hf.val)))).toNat % 128 = l.val / 2 + 64 * hf.val := by
  decide +kernel

/-- The shift a packed half block applies. -/
theorem uShift : ∀ (l : Fin 128), IntOp.muli (IntOp.andi (BitVec.ofNat 32 l.val) 1#32) 16#32 = BitVec.ofNat 32 (16 * (l.val % 2)) := by
  decide +kernel

theorem uHalf_apply (w : IVec S128x768 32) (blk : Fin 6) (hf : Fin 2) (h : S128x768.Slices ![0, 128 * blk.val] S128x128) (R l : Fin 128) :
    uHalf w (128 * blk.val) h (BitVec.ofNat 32 (64 * hf.val)) (ix2 R l)
      = pk w R ⟨256 * blk.val + 128 * hf.val + l.val, by omega⟩ := by
  have h1 := uLane l hf
  have h2 := uShift l
  unfold uHalf pk
  pointwise []
  simp only [h1, h2]
  rw [show (256 * blk.val + 128 * hf.val + l.val) % 2 = l.val % 2 by omega]
  have e : (⟨128 * blk.val + (l.val / 2 + 64 * hf.val), by omega⟩ : Fin 768) = ⟨(256 * blk.val + 128 * hf.val + l.val) / 2, by omega⟩ := Fin.ext (by simp only; omega)
  rw [e]
  rfl

theorem uPiece_apply (w : IVec S128x768 32) (blk : Fin 6) (hf : Fin 2) (h : S128x768.Slices ![0, 128 * blk.val] S128x128) (r : Fin 64) (l : Fin 128) :
    uPiece w (128 * blk.val) h (BitVec.ofNat 32 (64 * hf.val)) (ix2 r l)
      = uSpec w (ix2 r ⟨256 * blk.val + 128 * hf.val + l.val, by omega⟩) := by
  unfold uPiece uSpec
  rw [shapeCast_id, bitcast_rows32, uHalf_apply, uHalf_apply]
  rfl

/-! ## The left-hand side -/

/-- The words gathered for block `t` of a slab, from the words of 128 subspaces. -/
def gWord (arg1 t : BitVec 32) (u : IVec S64x128 32) : IVec S64x128 32 :=
  have v137 : IVec S64x128 32 := iota .tc S64x128 32 [1] iota_S64x128_d1_w32
  let v141 : BitVec 32 := Scalar.muli arg1 288#32
  let v142 : BitVec 32 := Scalar.addi v141 t
  have v164 : IVec S64x128 32 := broadcast S64x128 4#32
  have v165 : IVec S64x128 32 := shrsi v137 v164
  let v166 : BitVec 1 := Scalar.cmpi .eq 128#32 0#32
  let v167 : BitVec 32 := Scalar.select v166 1#32 128#32
  let v168 : BitVec 32 := Scalar.remsi v142 v167
  let v169 : BitVec 1 := Scalar.cmpi .ne v168 0#32
  let v170 : BitVec 1 := Scalar.cmpi .slt v168 0#32
  let v171 : BitVec 1 := Scalar.cmpi .slt v167 0#32
  let v172 : BitVec 1 := Scalar.xori v170 v171
  let v173 : BitVec 1 := Scalar.andi v172 v169
  let v174 : BitVec 32 := Scalar.addi v168 v167
  let v175 : BitVec 32 := Scalar.select v173 v174 v168
  have v176 : IVec S64x128 32 := broadcast S64x128 v175
  have v177 : IVec S64x128 32 := addi v165 v176
  have v178 : IVec S64x128 32 := broadcast S64x128 0#32
  have v179 : IVec S64x128 1 := cmpi .slt v177 v178
  have v180 : IVec S64x128 32 := broadcast S64x128 128#32
  have v181 : IVec S64x128 32 := addi v177 v180
  have v182 : IVec S64x128 32 := select v179 v181 v177
  have v183 : IVec S64x128x1 32 := shapeCast S64x128x1 v182 shapeCasts_S64x128_S64x128x1
  have v184 : IVec S64x128 32 := shapeCast S64x128 v183 shapeCasts_S64x128x1_S64x128
  dynamicGather 1 u v184

/-- The halfwords gathered for block `t` of a slab, from the words of 128 subspaces. -/
def gBlk (arg1 t : BitVec 32) (u : IVec S64x128 32) : IVec S128x128 16 :=
  bitcast S128x128 16 (gWord arg1 t u) bitcasts_S64x128_w32_S128x128_w16

/-- The block of the upper rows: the first code's indicator at `-2^-15` plus the second's at `2^-7`. -/
def p1Blk (g : IVec S128x128 16) : FVec F S1x128x128 .bf16 :=
  shapeCast S1x128x128
    (addf (select (cmpi .eq (andi g (broadcast S128x128 31#16)) k0_pay30) (broadcast S128x128 (Scalar.ofBits .bf16 0xB800#16 : F .bf16)) (broadcast S128x128 (Scalar.ofBits .bf16 0x0000#16 : F .bf16)))
      (select (cmpi .eq (andi (shrsi g (broadcast S128x128 5#16)) (broadcast S128x128 31#16)) k0_pay30) (broadcast S128x128 (Scalar.ofBits .bf16 0x3C00#16 : F .bf16)) (broadcast S128x128 (Scalar.ofBits .bf16 0x0000#16 : F .bf16))))
    shapeCasts_S128x128_S1x128x128

/-- The block of the lower rows: the second code's indicator at `2^-7` plus the third's at `1`. -/
def p2Blk (g : IVec S128x128 16) : FVec F S1x128x128 .bf16 :=
  shapeCast S1x128x128
    (addf (select (cmpi .eq (andi (shrsi g (broadcast S128x128 5#16)) (broadcast S128x128 31#16)) k0_pay30) (broadcast S128x128 (Scalar.ofBits .bf16 0x3C00#16 : F .bf16)) (broadcast S128x128 (Scalar.ofBits .bf16 0x0000#16 : F .bf16)))
      (select (cmpi .eq (shrsi g (broadcast S128x128 10#16)) k0_pay30) (broadcast S128x128 (Scalar.ofBits .bf16 0x3F80#16 : F .bf16)) (broadcast S128x128 (Scalar.ofBits .bf16 0x0000#16 : F .bf16))))
    shapeCasts_S128x128_S1x128x128

/-- The first lane of a block's subspaces inside the 128 read, as the kernel computes it. -/
theorem aBase : ∀ (a : Fin 5) (T : Fin 36),
    Scalar.select
        (Scalar.andi
          (Scalar.xori (Scalar.cmpi .slt (Scalar.remsi (Scalar.addi (Scalar.muli (BitVec.ofNat 32 a.val) 288#32) (BitVec.ofNat 32 (8 * T.val))) (Scalar.select (Scalar.cmpi .eq 128#32 0#32) 1#32 128#32)) 0#32)
            (Scalar.cmpi .slt (Scalar.select (Scalar.cmpi .eq 128#32 0#32) 1#32 128#32) 0#32))
          (Scalar.cmpi .ne (Scalar.remsi (Scalar.addi (Scalar.muli (BitVec.ofNat 32 a.val) 288#32) (BitVec.ofNat 32 (8 * T.val))) (Scalar.select (Scalar.cmpi .eq 128#32 0#32) 1#32 128#32)) 0#32))
        (Scalar.addi (Scalar.remsi (Scalar.addi (Scalar.muli (BitVec.ofNat 32 a.val) 288#32) (BitVec.ofNat 32 (8 * T.val))) (Scalar.select (Scalar.cmpi .eq 128#32 0#32) 1#32 128#32)) (Scalar.select (Scalar.cmpi .eq 128#32 0#32) 1#32 128#32))
        (Scalar.remsi (Scalar.addi (Scalar.muli (BitVec.ofNat 32 a.val) 288#32) (BitVec.ofNat 32 (8 * T.val))) (Scalar.select (Scalar.cmpi .eq 128#32 0#32) 1#32 128#32))
      = BitVec.ofNat 32 (8 * ((36 * a.val + T.val) % 16)) := by decide +kernel

/-- The lane a block gathers from. -/
theorem aLane : ∀ (l : Fin 128) (b : Fin 16),
    (Scalar.select (IntOp.cmpi .slt (IntOp.addi (IntOp.shrsi .vector (BitVec.ofNat 32 l.val) 4#32) (BitVec.ofNat 32 (8 * b.val))) 0#32)
      (IntOp.addi (IntOp.addi (IntOp.shrsi .vector (BitVec.ofNat 32 l.val) 4#32) (BitVec.ofNat 32 (8 * b.val))) 128#32)
      (IntOp.addi (IntOp.shrsi .vector (BitVec.ofNat 32 l.val) 4#32) (BitVec.ofNat 32 (8 * b.val)))).toNat % 128 = l.val / 16 + 8 * b.val := by decide +kernel

theorem gWord_apply (a : Fin 5) (T : Fin 36) (u : IVec S64x128 32) (r : Fin 64) (l : Fin 128) :
    gWord (BitVec.ofNat 32 a.val) (BitVec.ofNat 32 (8 * T.val)) u (ix2 r l)
      = u (ix2 r ⟨l.val / 16 + 8 * ((36 * a.val + T.val) % 16), by omega⟩) := by
  have h1 := aLane l ⟨(36 * a.val + T.val) % 16, by omega⟩
  unfold gWord
  dsimp only
  rw [aBase]
  pointwise []
  dsimp only at h1
  simp only [h1]

theorem gBlk_apply (a : Fin 5) (T : Fin 36) (u : IVec S64x128 32) (R l : Fin 128) :
    gBlk (BitVec.ofNat 32 a.val) (BitVec.ofNat 32 (8 * T.val)) u (ix2 R l)
      = (u (ix2 ⟨R.val / 2, by omega⟩ ⟨l.val / 16 + 8 * ((36 * a.val + T.val) % 16), by omega⟩)).extractLsb' (16 * (R.val % 2)) 16 := by
  unfold gBlk
  rw [bitcast_rows16, gWord_apply]

/-- An upper element: the first code's indicator at `-2^-15` plus the second's at `2^-7`. -/
def p1E (g k : BitVec 16) : F .bf16 :=
  FloatOps.addf
    (Scalar.select (IntOp.cmpi .eq (IntOp.andi g 31#16) k) (FloatOps.ofBits .bf16 0xB800#16 : F .bf16) (FloatOps.ofBits .bf16 0x0000#16))
    (Scalar.select (IntOp.cmpi .eq (IntOp.andi (IntOp.shrsi .vector g 5#16) 31#16) k) (FloatOps.ofBits .bf16 0x3C00#16) (FloatOps.ofBits .bf16 0x0000#16))

/-- A lower element: the second code's indicator at `2^-7` plus the third's at `1`. -/
def p2E (g k : BitVec 16) : F .bf16 :=
  FloatOps.addf
    (Scalar.select (IntOp.cmpi .eq (IntOp.andi (IntOp.shrsi .vector g 5#16) 31#16) k) (FloatOps.ofBits .bf16 0x3C00#16 : F .bf16) (FloatOps.ofBits .bf16 0x0000#16))
    (Scalar.select (IntOp.cmpi .eq (IntOp.shrsi .vector g 10#16) k) (FloatOps.ofBits .bf16 0x3F80#16) (FloatOps.ofBits .bf16 0x0000#16))

/-- The lane's centroid. -/
theorem lane16 : ∀ l : Fin 128, IntOp.andi (BitVec.ofNat 16 l.val) 15#16 = BitVec.ofNat 16 (l.val % 16) := by decide +kernel

theorem p1Blk_apply (g : IVec S128x128 16) (R l : Fin 128) :
    (p1Blk g : FVec F S1x128x128 .bf16) (ix3 0 R l) = p1E (g (ix2 R l)) (BitVec.ofNat 16 (l.val % 16)) := by
  unfold p1Blk p1E
  pointwise [k0_pay30]
  rw [lane16]

theorem p2Blk_apply (g : IVec S128x128 16) (R l : Fin 128) :
    (p2Blk g : FVec F S1x128x128 .bf16) (ix3 0 R l) = p2E (g (ix2 R l)) (BitVec.ofNat 16 (l.val % 16)) := by
  unfold p2Blk p2E
  pointwise [k0_pay30]
  rw [lane16]

/-- Half a packed word is one row's halfword. -/
theorem uSpec_half (w : IVec S128x768 32) (R : Fin 128) (m : Fin 1536) :
    (uSpec w (ix2 ⟨R.val / 2, by omega⟩ m)).extractLsb' (16 * (R.val % 2)) 16 = pk w R m := by
  have happ : ∀ x y : BitVec 16, (x ++ y).extractLsb' 0 16 = y ∧ (x ++ y).extractLsb' 16 16 = x := fun x y => by
    constructor <;> (apply BitVec.eq_of_getLsbD_eq; intro i hi; rw [BitVec.getLsbD_extractLsb', BitVec.getLsbD_append]; simp [hi])
  unfold uSpec
  rcases Nat.mod_two_eq_zero_or_one R.val with h | h
  · rw [h, Nat.mul_zero, (happ _ _).1]
    exact congrArg (fun s => pk w s m) (Fin.ext (by show 2 * (R.val / 2) = R.val; omega))
  · rw [h, Nat.mul_one, (happ _ _).2]
    exact congrArg (fun s => pk w s m) (Fin.ext (by show 2 * (R.val / 2) + 1 = R.val; omega))

/-- The left-hand side, whole: slab, row and column to the indicators' element. -/
def aSpec (w : IVec S128x768 32) : S5x256x4608.Idx → F .bf16 := fun j =>
  have h0 : (j 0).val < 5 := (j 0).isLt
  have h1 : (j 1).val < 256 := (j 1).isLt
  have h2 : (j 2).val < 4608 := (j 2).isLt
  if h : (j 1).val < 128 then p1E (pk w ⟨(j 1).val, h⟩ ⟨288 * (j 0).val + (j 2).val / 16, by omega⟩) (BitVec.ofNat 16 ((j 2).val % 16))
  else p2E (pk w ⟨(j 1).val - 128, by omega⟩ ⟨288 * (j 0).val + (j 2).val / 16, by omega⟩) (BitVec.ofNat 16 ((j 2).val % 16))

/-- The words block `t` of slab `a` reads are 128 columns of the packed codes. -/
theorem gBlk_spec (w : IVec S128x768 32) (a : Fin 5) (T : Fin 36) (inb : ∀ x, (![0, 128 * ((36 * a.val + T.val) / 16)] : Fin 2 → ℕ) x + S64x128.size x ≤ S64x1536.size x) (R l : Fin 128) :
    gBlk (BitVec.ofNat 32 a.val) (BitVec.ofNat 32 (8 * T.val)) (VecWindow.window (s := S64x1536) (uSpec w) ![0, 128 * ((36 * a.val + T.val) / 16)] S64x128.size inb) (ix2 R l)
      = pk w R ⟨288 * a.val + 8 * T.val + l.val / 16, by omega⟩ := by
  refine (gBlk_apply a T _ R l).trans ((congrArg (fun x : BitVec 32 => x.extractLsb' (16 * (R.val % 2)) 16) ?_).trans (uSpec_half w R _))
  refine congrArg (uSpec w) (funext fun x => ?_)
  match x with
    | ⟨0, _⟩ => exact Fin.ext (by show 0 + 1 * (R.val / 2) = R.val / 2; omega)
    | ⟨1, _⟩ => exact Fin.ext (by
        show 128 * ((36 * a.val + T.val) / 16) + 1 * (l.val / 16 + 8 * ((36 * a.val + T.val) % 16)) = 288 * a.val + 8 * T.val + l.val / 16
        omega)

theorem p1Blk_spec (w : IVec S128x768 32) (a : Fin 5) (T : Fin 36) (inb : ∀ x, (![0, 128 * ((36 * a.val + T.val) / 16)] : Fin 2 → ℕ) x + S64x128.size x ≤ S64x1536.size x) (R l : Fin 128) :
    (p1Blk (gBlk (BitVec.ofNat 32 a.val) (BitVec.ofNat 32 (8 * T.val)) (VecWindow.window (s := S64x1536) (uSpec w) ![0, 128 * ((36 * a.val + T.val) / 16)] S64x128.size inb)) : FVec F S1x128x128 .bf16) (ix3 0 R l)
      = aSpec w (ix3 a ⟨R.val, by omega⟩ ⟨128 * T.val + l.val, by omega⟩) := by
  rw [p1Blk_apply, gBlk_spec]
  have h : (ix3 a (⟨R.val, by omega⟩ : Fin 256) (⟨128 * T.val + l.val, by omega⟩ : Fin 4608) 1).val < 128 := R.isLt
  unfold aSpec
  dsimp only
  rw [dif_pos h]
  have e1 : 288 * a.val + (128 * T.val + l.val) / 16 = 288 * a.val + 8 * T.val + l.val / 16 := by omega
  have e2 : (128 * T.val + l.val) % 16 = l.val % 16 := by omega
  show _ = p1E (pk w R ⟨288 * a.val + (128 * T.val + l.val) / 16, _⟩) (BitVec.ofNat 16 ((128 * T.val + l.val) % 16))
  simp only [e1, e2]

theorem p2Blk_spec (w : IVec S128x768 32) (a : Fin 5) (T : Fin 36) (inb : ∀ x, (![0, 128 * ((36 * a.val + T.val) / 16)] : Fin 2 → ℕ) x + S64x128.size x ≤ S64x1536.size x) (R l : Fin 128) :
    (p2Blk (gBlk (BitVec.ofNat 32 a.val) (BitVec.ofNat 32 (8 * T.val)) (VecWindow.window (s := S64x1536) (uSpec w) ![0, 128 * ((36 * a.val + T.val) / 16)] S64x128.size inb)) : FVec F S1x128x128 .bf16) (ix3 0 R l)
      = aSpec w (ix3 a ⟨128 + R.val, by omega⟩ ⟨128 * T.val + l.val, by omega⟩) := by
  rw [p2Blk_apply, gBlk_spec]
  have h : ¬(ix3 a (⟨128 + R.val, by omega⟩ : Fin 256) (⟨128 * T.val + l.val, by omega⟩ : Fin 4608) 1).val < 128 := by
    show ¬(128 + R.val < 128); omega
  unfold aSpec
  dsimp only
  rw [dif_neg h]
  have e1 : 288 * a.val + (128 * T.val + l.val) / 16 = 288 * a.val + 8 * T.val + l.val / 16 := by omega
  have e2 : (128 * T.val + l.val) % 16 = l.val % 16 := by omega
  have e3 : (⟨128 + R.val - 128, by omega⟩ : Fin 128) = R := Fin.ext (by simp)
  show _ = p2E (pk w ⟨128 + R.val - 128, _⟩ ⟨288 * a.val + (128 * T.val + l.val) / 16, _⟩) (BitVec.ofNat 16 ((128 * T.val + l.val) % 16))
  simp only [e1, e2, e3]

/-! ## The codes -/

/-- The code of codebook `b`, row `s`, subspace `m`: the low half of the packed byte for an even subspace, the high half for an odd one. -/
def nib (d : S3x720x128.Idx → BitVec 8) (b : Fin 3) (s : Fin 128) (m : Fin 1440) : BitVec 8 :=
  if m.val % 2 = 0 then d (ix3 b ⟨m.val / 2, by omega⟩ s) &&& 15#8 else d (ix3 b ⟨m.val / 2, by omega⟩ s) >>> 4

/-- The packed word of three bytes: their low halves, and their high halves 16 bits up. -/
def word3 (c0 c1 c2 : BitVec 8) : BitVec 32 :=
  (((c0.setWidth 32 &&& 15#32) ||| ((c1.setWidth 32 &&& 15#32) <<< 5)) ||| ((c2.setWidth 32 &&& 15#32) <<< 10))
    ||| ((((c0.setWidth 32 >>> 4) ||| ((c1.setWidth 32 >>> 4) <<< 5)) ||| ((c2.setWidth 32 >>> 4) <<< 10)) <<< 16)

/-- A byte widened is not negative, so its arithmetic shift is the logical one. -/
theorem shrsi_byte (c : BitVec 8) : IntOp.shrsi .vector (c.setWidth 32) 4#32 = c.setWidth 32 >>> 4 := by
  revert c; decide +kernel

theorem pay4_apply (x0 x1 x2 : Vec F S1x720x128 .i8) (s : Fin 128) (m : Fin 720) :
    k0_pay4 (F := F) x0 x1 x2 (ix2 s ⟨m.val, by omega⟩) = word3 (x0 (ix3 0 m s)) (x1 (ix3 0 m s)) (x2 (ix3 0 m s)) := by
  unfold k0_pay4
  pointwise []
  rw [shrsi_byte, shrsi_byte, shrsi_byte]
  rfl

/-- The halfword of an even subspace. -/
theorem half_even (c0 c1 c2 : BitVec 8) :
    ((IntOp.shrsi .vector (word3 c0 c1 c2) (BitVec.ofNat 32 0)) &&& 32767#32).setWidth 16
      = ((c0 &&& 15#8).setWidth 16 ||| ((c1 &&& 15#8).setWidth 16 <<< 5)) ||| ((c2 &&& 15#8).setWidth 16 <<< 10) := by
  have e : IntOp.shrsi .vector (word3 c0 c1 c2) (BitVec.ofNat 32 0) = (word3 c0 c1 c2).sshiftRight 0 := rfl
  rw [e]
  unfold word3
  apply BitVec.eq_of_getLsbD_eq
  intro i hi
  interval_cases i <;> simp [BitVec.getElem_sshiftRight]

theorem half_odd (c0 c1 c2 : BitVec 8) :
    ((IntOp.shrsi .vector (word3 c0 c1 c2) (BitVec.ofNat 32 16)) &&& 32767#32).setWidth 16
      = ((c0 >>> 4).setWidth 16 ||| ((c1 >>> 4).setWidth 16 <<< 5)) ||| ((c2 >>> 4).setWidth 16 <<< 10) := by
  have e : IntOp.shrsi .vector (word3 c0 c1 c2) (BitVec.ofNat 32 16) = (word3 c0 c1 c2).sshiftRight 16 := rfl
  rw [e]
  unfold word3
  apply BitVec.eq_of_getLsbD_eq
  intro i hi
  interval_cases i <;> simp [BitVec.getElem_sshiftRight]

/-- The three codes of a packed halfword. -/
theorem fields : ∀ (n0 n1 n2 : Fin 16),
    have g : BitVec 16 := (BitVec.ofNat 16 n0.val ||| (BitVec.ofNat 16 n1.val <<< 5)) ||| (BitVec.ofNat 16 n2.val <<< 10)
    IntOp.andi g 31#16 = BitVec.ofNat 16 n0.val ∧ IntOp.andi (IntOp.shrsi .vector g 5#16) 31#16 = BitVec.ofNat 16 n1.val
      ∧ IntOp.shrsi .vector g 10#16 = BitVec.ofNat 16 n2.val := by decide +kernel

/-- A code is below 16. -/
theorem nib_lt (d : S3x720x128.Idx → BitVec 8) (b : Fin 3) (s : Fin 128) (m : Fin 1440) : (nib d b s m).toNat < 16 := by
  have h1 : ∀ c : BitVec 8, (c &&& 15#8).toNat < 16 ∧ (c >>> 4).toNat < 16 := by decide +kernel
  unfold nib
  split
  · exact (h1 _).1
  · exact (h1 _).2

/-- The packed codes of a block of bytes. -/
def wOf (d : S3x720x128.Idx → BitVec 8) : IVec S128x768 32 :=
  k0_pay4 (F := F) (fun j => d (ix3 0 (j 1) (j 2))) (fun j => d (ix3 1 (j 1) (j 2))) (fun j => d (ix3 2 (j 1) (j 2)))

/-- The halfword of a row and subspace holds the three codes, five bits each. -/
theorem pk_wOf (d : S3x720x128.Idx → BitVec 8) (s : Fin 128) (m : Fin 1440) :
    pk (wOf (F := F) d) s ⟨m.val, by omega⟩
      = (BitVec.ofNat 16 (nib d 0 s m).toNat ||| (BitVec.ofNat 16 (nib d 1 s m).toNat <<< 5)) ||| (BitVec.ofNat 16 (nib d 2 s m).toNat <<< 10) := by
  unfold pk
  have h := pay4_apply (F := F) (fun j => d (ix3 0 (j 1) (j 2))) (fun j => d (ix3 1 (j 1) (j 2))) (fun j => d (ix3 2 (j 1) (j 2))) s ⟨m.val / 2, by omega⟩
  unfold wOf
  rw [h]
  unfold nib
  rcases Nat.mod_two_eq_zero_or_one m.val with h | h
  · simp only [h, Nat.mul_zero, if_true]
    rw [half_even]
    simp only [BitVec.ofNat_toNat]
    rfl
  · simp only [h, Nat.mul_one, if_neg Nat.one_ne_zero]
    rw [half_odd]
    simp only [BitVec.ofNat_toNat]
    rfl

end Cert.KernelIdeal.Hand
-- ==== Proof.IdealStores.lean ====
/-
  The stores of the packed codes and of one slab of the left-hand side, and what the buffers read after them.
-/
module

public import proofs.«01_k».proof.Proof.IdealArms
public import proofs.«01_k».proof.Proof.IdealSpec

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 400000
set_option maxRecDepth 65536

/-! ## The packed codes -/

theorem uPiece_emb (w : IVec S128x768 32) (blk : Fin 6) (hf : Fin 2) (h : S128x768.Slices ![0, 128 * blk.val] S128x128)
    (inb : ∀ a, (![0, 256 * blk.val + 128 * hf.val] : Fin 2 → ℕ) a + S64x128.size a ≤ S64x1536.size a) (x : (Rect.unit (s := S64x1536) ![0, 256 * blk.val + 128 * hf.val] S64x128.size inb).shape.Idx) :
    uPiece w (128 * blk.val) h (BitVec.ofNat 32 (64 * hf.val)) x = uSpec w ((Rect.unit (s := S64x1536) ![0, 256 * blk.val + 128 * hf.val] S64x128.size inb).emb x) := by
  have hx : x = (ix2 (x 0) (x 1) : S64x128.Idx) := funext fun a => match a with
    | ⟨0, _⟩ => rfl
    | ⟨1, _⟩ => rfl
  refine (congrArg (uPiece w (128 * blk.val) h (BitVec.ofNat 32 (64 * hf.val))) hx).trans ((uPiece_apply w blk hf h (x 0) (x 1)).trans (congrArg (uSpec w) (funext fun a => ?_)))
  match a with
    | ⟨0, _⟩ => exact Fin.ext (by show (x 0).val = 0 + 1 * (x 0).val; omega)
    | ⟨1, _⟩ => exact Fin.ext (by show 256 * blk.val + 128 * hf.val + (x 1).val = 256 * blk.val + 128 * hf.val + 1 * (x 1).val; omega)

theorem uSlices (blk : Fin 6) : S128x768.Slices ![0, 128 * blk.val] S128x128 :=
  ⟨rfl, fun a => match a with
    | ⟨0, _⟩ => by show 0 + 128 ≤ 128; omega
    | ⟨1, _⟩ => by show 128 * blk.val + 128 ≤ 768; omega⟩

theorem uInb (blk : Fin 6) (hf : Fin 2) : ∀ a, (![0, 256 * blk.val + 128 * hf.val] : Fin 2 → ℕ) a + S64x128.size a ≤ S64x1536.size a := fun a => match a with
    | ⟨0, _⟩ => by show 0 + 64 ≤ 64; omega
    | ⟨1, _⟩ => by show 256 * blk.val + 128 * hf.val + 128 ≤ 1536; omega

/-- The twelve stores of the packed codes, the newest first. -/
def uList (w : IVec S128x768 32) : List (View.Piece (Elt F) S64x1536 .i32) :=
  ([5, 4, 3, 2, 1, 0] : List (Fin 6)).flatMap fun blk => ([1, 0] : List (Fin 2)).map fun hf =>
    ⟨Rect.unit ![0, 256 * blk.val + 128 * hf.val] S64x128.size (uInb blk hf), uPiece w (128 * blk.val) (uSlices blk) (BitVec.ofNat 32 (64 * hf.val))⟩

theorem read_uList (w : IVec S128x768 32) (fu : uM.view.ty.Contents (Elt F)) : uM.view.read (Elt F) (uM.view.writes (Elt F) fu (uList w)) = uSpec w := by
  funext y
  refine View.read_writes_apply_of_pieces (Val := Elt F) (e := .i32) _ _ (uSpec w) _ (fun p hp x => ?_) y ?_
  · obtain ⟨blk, -, hp⟩ := List.mem_flatMap.1 hp
    obtain ⟨hf, -, rfl⟩ := List.mem_map.1 hp
    exact uPiece_emb w blk hf (uSlices blk) (uInb blk hf) x
  · have h0 : (y 0).val < 64 := (y 0).isLt
    have h1 : (y 1).val < 1536 := (y 1).isLt
    have hb : ∀ b : Fin 6, b ∈ ([5, 4, 3, 2, 1, 0] : List (Fin 6)) := by decide
    have hh : ∀ b : Fin 2, b ∈ ([1, 0] : List (Fin 2)) := by decide
    refine ⟨_, List.mem_flatMap.2 ⟨⟨(y 1).val / 256, by omega⟩, hb _, List.mem_map.2 ⟨⟨(y 1).val % 256 / 128, by omega⟩, hh _, rfl⟩⟩, ?_⟩
    rw [Rect.mem_set_unit]
    intro a
    match a with
    | ⟨0, _⟩ => show 0 ≤ (y 0).val ∧ (y 0).val < 0 + 64; omega
    | ⟨1, _⟩ =>
      show 256 * ((y 1).val / 256) + 128 * ((y 1).val % 256 / 128) ≤ (y 1).val ∧ (y 1).val < 256 * ((y 1).val / 256) + 128 * ((y 1).val % 256 / 128) + 128
      omega

/-! ## The left-hand side -/

/-- The offsets of the upper and of the lower block of each of the 36 column blocks. -/
def offUp (i : grid0.Coords) : Fin 36 → Fin 3 → ℕ := ![k0_off2 i, k0_off4 i, k0_off6 i, k0_off8 i, k0_off10 i, k0_off12 i, k0_off14 i, k0_off16 i, k0_off18 i, k0_off20 i, k0_off22 i, k0_off24 i, k0_off26 i, k0_off28 i, k0_off30 i, k0_off32 i, k0_off34 i, k0_off36 i, k0_off38 i, k0_off40 i, k0_off42 i, k0_off44 i, k0_off46 i, k0_off48 i, k0_off50 i, k0_off52 i, k0_off54 i, k0_off56 i, k0_off58 i, k0_off60 i, k0_off62 i, k0_off64 i, k0_off66 i, k0_off68 i, k0_off70 i, k0_off72 i]
def offLo (i : grid0.Coords) : Fin 36 → Fin 3 → ℕ := ![k0_off3 i, k0_off5 i, k0_off7 i, k0_off9 i, k0_off11 i, k0_off13 i, k0_off15 i, k0_off17 i, k0_off19 i, k0_off21 i, k0_off23 i, k0_off25 i, k0_off27 i, k0_off29 i, k0_off31 i, k0_off33 i, k0_off35 i, k0_off37 i, k0_off39 i, k0_off41 i, k0_off43 i, k0_off45 i, k0_off47 i, k0_off49 i, k0_off51 i, k0_off53 i, k0_off55 i, k0_off57 i, k0_off59 i, k0_off61 i, k0_off63 i, k0_off65 i, k0_off67 i, k0_off69 i, k0_off71 i, k0_off73 i]

theorem offUp_eq : ∀ (i : grid0.Coords) (T : Fin 36), offUp i T = ![(i 1).val, 0, 128 * T.val] := by decide +kernel
theorem offLo_eq : ∀ (i : grid0.Coords) (T : Fin 36), offLo i T = ![(i 1).val, 128, 128 * T.val] := by decide +kernel

theorem inbUp (i : grid0.Coords) (T : Fin 36) : ∀ a, offUp i T a + S1x128x128.size a ≤ S5x256x4608.size a := by
  rw [offUp_eq]
  have h : (i 1).val < 5 := (i 1).isLt
  exact fun a => match a with
    | ⟨0, _⟩ => by show (i 1).val + 1 ≤ 5; omega
    | ⟨1, _⟩ => by show 0 + 128 ≤ 256; omega
    | ⟨2, _⟩ => by show 128 * T.val + 128 ≤ 4608; omega

theorem inbLo (i : grid0.Coords) (T : Fin 36) : ∀ a, offLo i T a + S1x128x128.size a ≤ S5x256x4608.size a := by
  rw [offLo_eq]
  have h : (i 1).val < 5 := (i 1).isLt
  exact fun a => match a with
    | ⟨0, _⟩ => by show (i 1).val + 1 ≤ 5; omega
    | ⟨1, _⟩ => by show 128 + 128 ≤ 256; omega
    | ⟨2, _⟩ => by show 128 * T.val + 128 ≤ 4608; omega

/-- The words block `T` reads. -/
def uLoad (i : grid0.Coords) (h2 : k0_cond2 i = 1#1) (fu : uM.view.ty.Contents (Elt F)) (T : Fin 36) : IVec S64x128 32 :=
  uM.view.readAt (Elt F) (Rect.unit (s := S64x1536) (k0_off1 i (BitVec.ofNat 32 (8 * T.val))) S64x128.size (k0_off1_inb i h2 T)).toLoadRect fu

/-- The 72 stores of one slab, the newest first. -/
def aList (i : grid0.Coords) (h2 : k0_cond2 i = 1#1) (fu : uM.view.ty.Contents (Elt F)) : List (View.Piece (Elt F) S5x256x4608 .bf16) :=
  ([35, 34, 33, 32, 31, 30, 29, 28, 27, 26, 25, 24, 23, 22, 21, 20, 19, 18, 17, 16, 15, 14, 13, 12, 11, 10, 9, 8, 7, 6, 5, 4, 3, 2, 1, 0] : List (Fin 36)).flatMap fun T =>
    [⟨Rect.unit (offLo i T) S1x128x128.size (inbLo i T), p2Blk (gBlk (BitVec.ofNat 32 (i 1).val) (BitVec.ofNat 32 (8 * T.val)) (uLoad i h2 fu T))⟩,
     ⟨Rect.unit (offUp i T) S1x128x128.size (inbUp i T), p1Blk (gBlk (BitVec.ofNat 32 (i 1).val) (BitVec.ofNat 32 (8 * T.val)) (uLoad i h2 fu T))⟩]

theorem off1_eq : ∀ (i : grid0.Coords) (T : Fin 36), k0_off1 i (BitVec.ofNat 32 (8 * T.val)) = ![0, 128 * ((36 * (i 1).val + T.val) / 16)] := by decide +kernel

/-- The slab of the current step, the others as they were. -/
def aPut (i : grid0.Coords) (w : IVec S128x768 32) (da : S5x256x4608.Idx → Elt F .bf16) : S5x256x4608.Idx → Elt F .bf16 := fun j =>
  if (j 0).val = (i 1).val then aSpec w j else da j

theorem uLoad_eq (i : grid0.Coords) (h2 : k0_cond2 i = 1#1) (fu : uM.view.ty.Contents (Elt F)) (w : IVec S128x768 32) (hu : uM.view.read (Elt F) fu = uSpec w) (T : Fin 36) :
    ∃ inb, uLoad i h2 fu T = VecWindow.window (s := S64x1536) (uSpec w) ![0, 128 * ((36 * (i 1).val + T.val) / 16)] S64x128.size inb := by
  have inb' : ∀ x, (![0, 128 * ((36 * (i 1).val + T.val) / 16)] : Fin 2 → ℕ) x + S64x128.size x ≤ S64x1536.size x := off1_eq i T ▸ k0_off1_inb i h2 T
  refine ⟨inb', ?_⟩
  unfold uLoad
  rw [View.readAt_unit _ _ _ (off1_eq i T) inb', hu]

theorem p1_emb (i : grid0.Coords) (T : Fin 36) (w : IVec S128x768 32) (inb) (x : S1x128x128.Idx) :
    p1Blk (F := F) (gBlk (BitVec.ofNat 32 (i 1).val) (BitVec.ofNat 32 (8 * T.val)) (VecWindow.window (s := S64x1536) (uSpec w) ![0, 128 * ((36 * (i 1).val + T.val) / 16)] S64x128.size inb)) x
      = aSpec w ((Rect.unit (s := S5x256x4608) (offUp i T) S1x128x128.size (inbUp i T)).emb x) := by
  have hx : x = (ix3 0 (x 1) (x 2) : S1x128x128.Idx) := funext fun a => match a with
    | ⟨0, _⟩ => Fin.ext (by have : (x 0).val < 1 := (x 0).isLt; show (x 0).val = 0; omega)
    | ⟨1, _⟩ => rfl
    | ⟨2, _⟩ => rfl
  refine (congrArg _ hx).trans ((p1Blk_spec w ⟨(i 1).val, (i 1).isLt⟩ T inb (x 1) (x 2)).trans (congrArg (aSpec w) (funext fun a => Fin.ext ?_)))
  have h0 : offUp i T 0 = (i 1).val := congrFun (offUp_eq i T) 0
  have h1 : offUp i T 1 = 0 := congrFun (offUp_eq i T) 1
  have h2 : offUp i T 2 = 128 * T.val := congrFun (offUp_eq i T) 2
  match a with
    | ⟨0, _⟩ => have : (x 0).val < 1 := (x 0).isLt; show (i 1).val = offUp i T 0 + 1 * (x 0).val; omega
    | ⟨1, _⟩ => show (x 1).val = offUp i T 1 + 1 * (x 1).val; omega
    | ⟨2, _⟩ => show 128 * T.val + (x 2).val = offUp i T 2 + 1 * (x 2).val; omega

theorem p2_emb (i : grid0.Coords) (T : Fin 36) (w : IVec S128x768 32) (inb) (x : S1x128x128.Idx) :
    p2Blk (F := F) (gBlk (BitVec.ofNat 32 (i 1).val) (BitVec.ofNat 32 (8 * T.val)) (VecWindow.window (s := S64x1536) (uSpec w) ![0, 128 * ((36 * (i 1).val + T.val) / 16)] S64x128.size inb)) x
      = aSpec w ((Rect.unit (s := S5x256x4608) (offLo i T) S1x128x128.size (inbLo i T)).emb x) := by
  have hx : x = (ix3 0 (x 1) (x 2) : S1x128x128.Idx) := funext fun a => match a with
    | ⟨0, _⟩ => Fin.ext (by have : (x 0).val < 1 := (x 0).isLt; show (x 0).val = 0; omega)
    | ⟨1, _⟩ => rfl
    | ⟨2, _⟩ => rfl
  refine (congrArg _ hx).trans ((p2Blk_spec w ⟨(i 1).val, (i 1).isLt⟩ T inb (x 1) (x 2)).trans (congrArg (aSpec w) (funext fun a => Fin.ext ?_)))
  have h0 : offLo i T 0 = (i 1).val := congrFun (offLo_eq i T) 0
  have h1 : offLo i T 1 = 128 := congrFun (offLo_eq i T) 1
  have h2 : offLo i T 2 = 128 * T.val := congrFun (offLo_eq i T) 2
  match a with
    | ⟨0, _⟩ => have : (x 0).val < 1 := (x 0).isLt; show (i 1).val = offLo i T 0 + 1 * (x 0).val; omega
    | ⟨1, _⟩ => show 128 + (x 1).val = offLo i T 1 + 1 * (x 1).val; omega
    | ⟨2, _⟩ => show 128 * T.val + (x 2).val = offLo i T 2 + 1 * (x 2).val; omega

theorem read_aList (i : grid0.Coords) (h2 : k0_cond2 i = 1#1) (fu : uM.view.ty.Contents (Elt F)) (w : IVec S128x768 32) (hu : uM.view.read (Elt F) fu = uSpec w)
    (fa : aM.view.ty.Contents (Elt F)) : aM.view.read (Elt F) (aM.view.writes (Elt F) fa (aList i h2 fu)) = aPut i w (aM.view.read (Elt F) fa) := by
  have hi : (i 1).val < 5 := (i 1).isLt
  funext y
  have y0 : (y 0).val < 5 := (y 0).isLt
  have y1 : (y 1).val < 256 := (y 1).isLt
  have y2 : (y 2).val < 4608 := (y 2).isLt
  unfold aPut
  split
  case isTrue hy =>
    refine View.read_writes_apply_of_pieces (Val := Elt F) (e := .bf16) _ _ (aSpec w) _ (fun p hp x => ?_) y ?_
    · obtain ⟨T, -, hp⟩ := List.mem_flatMap.1 hp
      obtain ⟨inb, hld⟩ := uLoad_eq i h2 fu w hu T
      rw [hld] at hp
      rcases List.mem_cons.1 hp with rfl | hp
      · exact p2_emb i T w inb x
      · obtain rfl := List.mem_singleton.1 hp
        exact p1_emb i T w inb x
    · have hT : ∀ b : Fin 36, b ∈ ([35, 34, 33, 32, 31, 30, 29, 28, 27, 26, 25, 24, 23, 22, 21, 20, 19, 18, 17, 16, 15, 14, 13, 12, 11, 10, 9, 8, 7, 6, 5, 4, 3, 2, 1, 0] : List (Fin 36)) := by decide
      by_cases h : (y 1).val < 128
      · refine ⟨_, List.mem_flatMap.2 ⟨⟨(y 2).val / 128, by omega⟩, hT _, List.mem_cons_of_mem _ (List.mem_singleton.2 rfl)⟩, ?_⟩
        rw [Rect.mem_set_unit, offUp_eq]
        exact fun a => match a with
          | ⟨0, _⟩ => by show (i 1).val ≤ (y 0).val ∧ (y 0).val < (i 1).val + 1; omega
          | ⟨1, _⟩ => by show 0 ≤ (y 1).val ∧ (y 1).val < 0 + 128; omega
          | ⟨2, _⟩ => by show 128 * ((y 2).val / 128) ≤ (y 2).val ∧ (y 2).val < 128 * ((y 2).val / 128) + 128; omega
      · refine ⟨_, List.mem_flatMap.2 ⟨⟨(y 2).val / 128, by omega⟩, hT _, List.mem_cons_self⟩, ?_⟩
        rw [Rect.mem_set_unit, offLo_eq]
        exact fun a => match a with
          | ⟨0, _⟩ => by show (i 1).val ≤ (y 0).val ∧ (y 0).val < (i 1).val + 1; omega
          | ⟨1, _⟩ => by show 128 ≤ (y 1).val ∧ (y 1).val < 128 + 128; omega
          | ⟨2, _⟩ => by show 128 * ((y 2).val / 128) ≤ (y 2).val ∧ (y 2).val < 128 * ((y 2).val / 128) + 128; omega
  case isFalse hy =>
    refine View.read_writes_apply_of_forall_not_mem _ _ y _ fun p hp hmem => ?_
    obtain ⟨T, -, hp⟩ := List.mem_flatMap.1 hp
    rcases List.mem_cons.1 hp with rfl | hp
    · rw [Rect.mem_set_unit, offLo_eq] at hmem
      have : (i 1).val ≤ (y 0).val ∧ (y 0).val < (i 1).val + 1 := hmem 0
      omega
    · obtain rfl := List.mem_singleton.1 hp
      rw [Rect.mem_set_unit, offUp_eq] at hmem
      have : (i 1).val ≤ (y 0).val ∧ (y 0).val < (i 1).val + 1 := hmem 0
      omega

end Cert.KernelIdeal.Hand
-- ==== Proof.IdealRuns.lean ====
/-
  The arms of the body that fill the packed codes, the left-hand side and the accumulator, run by values.
-/
module

public import proofs.«01_k».proof.Proof.IdealArms
public import proofs.«01_k».proof.Proof.IdealStores

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 1000000
set_option maxRecDepth 65536

section Arms

variable (i : grid0.Coords) (c : Dev nD) (a2 : Memref sig .tc .vmem S3x720x128 .i8) (h2 : a2.IsWhole) (a3 : Memref sig .tc .vmem S288x16x512 .i8) (h3 : a3.IsWhole) (a4 : Memref sig .tc .vmem S15x512 .f32) (h4 : a4.IsWhole) (a5 : Memref sig .tc .vmem S3x128x512 .bf16) (h5 : a5.IsWhole)
  (d2 : S3x720x128.Idx → Elt F .i8) (d3 : S288x16x512.Idx → Elt F .i8) (d4 : S15x512.Idx → Elt F .f32)

/-- The buffers the body touches: the inputs by values, the rest as given. -/
def res (X5 XU XA XY : sProp 𝕄) : sProp 𝕄 :=
  iprop(owns (c : Thread nD τ) a2 fullShare d2 ∗ owns (c : Thread nD τ) a3 fullShare d3 ∗ owns (c : Thread nD τ) a4 fullShare d4 ∗ X5 ∗ XU ∗ XA ∗ XY)

theorem runU (X5 XA XY : sProp 𝕄) : (res c a2 a3 a4 d2 d3 d4 X5 iprop(∃ d, owns (c : Thread nD τ) uM fullShare d) XA XY : sProp 𝕄) ⊢
    wp frame (wpE (defs₀ (F := F)) Variants.none c none) Set.univ (progU i a2 h2 a3 h3 a4 h4 a5 h5 uM (Memref.isWhole_whole _) aM (Memref.isWhole_whole _) yM (Memref.isWhole_whole _))
      (fun _ => res c a2 a3 a4 d2 d3 d4 X5 (owns (c : Thread nD τ) uM fullShare (uSpec (wOf (F := F) d2))) XA XY) := by
  unfold res owns progU
  iintro ⟨⟨%f2, %hf2, H2⟩, H3, H4, H5, ⟨%du, %fu, -, Hu⟩, Ha, Hy⟩
  sl_open_parts
  sl_exec
  sl_step
  isplitl [H2]
  · iexists _; isplitr; swap; · iexact H2
    ipureintro; exact hf2
  isplitl [H3]; · iexact H3
  isplitl [H4]; · iexact H4
  isplitl [H5]; · iexact H5
  isplitl [Hu]
  · iexists _; isplitr; swap; · iexact Hu
    ipureintro
    subst hf2
    have hw : k0_pay4 (F := F) (a2.view.readAt (Elt F) (Rect.unit (s := S3x720x128) ![0, 0, 0] S1x720x128.size inb_S3x720x128_S1x720x128_0_0_0).toLoadRect f2)
        (a2.view.readAt (Elt F) (Rect.unit (s := S3x720x128) ![1, 0, 0] S1x720x128.size inb_S3x720x128_S1x720x128_1_0_0).toLoadRect f2)
        (a2.view.readAt (Elt F) (Rect.unit (s := S3x720x128) ![2, 0, 0] S1x720x128.size inb_S3x720x128_S1x720x128_2_0_0).toLoadRect f2)
        = wOf (F := F) (a2.view.read (Elt F) f2) := by
      have hp : ∀ (b : Fin 3) (inb : ∀ a, (![b.val, 0, 0] : Fin 3 → ℕ) a + S1x720x128.size a ≤ S3x720x128.size a),
          a2.view.readAt (Elt F) (Rect.unit (s := S3x720x128) ![b.val, 0, 0] S1x720x128.size inb).toLoadRect f2 = fun j => a2.view.read (Elt F) f2 (ix3 b (j 1) (j 2)) := fun b inb => by
        rw [View.readAt_unit _ _ inb rfl inb]
        funext j
        refine congrArg (a2.view.read (Elt F) f2) (funext fun a => Fin.ext ?_)
        match a with
        | ⟨0, _⟩ => have : (j 0).val < 1 := (j 0).isLt; show b.val + 1 * (j 0).val = b.val; omega
        | ⟨1, _⟩ => show 0 + 1 * (j 1).val = (j 1).val; omega
        | ⟨2, _⟩ => show 0 + 1 * (j 2).val = (j 2).val; omega
      unfold wOf
      exact congr (congr (congrArg (k0_pay4 (F := F)) (hp 0 _)) (hp 1 _)) (hp 2 _)
    rw [← hw]
    refine Eq.trans (congrArg (uM.view.read (Elt F)) (congrArg (uM.view.writes (Elt F) fu) ?_)) (read_uList _ fu)
    generalize k0_pay4 (F := F) _ _ _ = w
    show _ = List.cons _ (List.cons _ (List.cons _ (List.cons _ (List.cons _ (List.cons _ (List.cons _ (List.cons _ (List.cons _ (List.cons _ (List.cons _ (List.cons _ [])))))))))))
    repeat' refine congrArg₂ List.cons ?_ ?_
    all_goals first | with_reducible rfl | (refine congrArg (Sigma.mk _) ?_; rfl)
  isplitl [Ha]; · iexact Ha
  iexact Hy

set_option sl_open_parts.maxParts 100 in
theorem runA (h : k0_cond2 i = 1#1) (w : IVec S128x768 32) (da : S5x256x4608.Idx → Elt F .bf16) (X5 XY : sProp 𝕄) :
    (res c a2 a3 a4 d2 d3 d4 X5 (owns (c : Thread nD τ) uM fullShare (uSpec w)) (owns (c : Thread nD τ) aM fullShare da) XY : sProp 𝕄) ⊢
    wp frame (wpE (defs₀ (F := F)) Variants.none c none) Set.univ (progA i a2 h2 a3 h3 a4 h4 a5 h5 uM (Memref.isWhole_whole _) aM (Memref.isWhole_whole _) yM (Memref.isWhole_whole _) h)
      (fun _ => res c a2 a3 a4 d2 d3 d4 X5 (owns (c : Thread nD τ) uM fullShare (uSpec w)) (owns (c : Thread nD τ) aM fullShare (aPut i w da)) XY) := by
  unfold res owns progA
  iintro ⟨H2, H3, H4, H5, ⟨%fu, %hfu, Hu⟩, ⟨%fa, %hfa, Ha⟩, Hy⟩
  sl_open_parts
  sl_exec
  sl_step
  isplitl [H2]; · iexact H2
  isplitl [H3]; · iexact H3
  isplitl [H4]; · iexact H4
  isplitl [H5]; · iexact H5
  isplitl [Hu]
  · iexists _; isplitr; swap; · iexact Hu
    ipureintro; exact hfu
  isplitl [Ha]
  · iexists _; isplitr; swap; · iexact Ha
    ipureintro
    subst hfa
    exact read_aList i h fu w hfu fa
  iexact Hy

theorem runY (X5 XU XA : sProp 𝕄) : (res c a2 a3 a4 d2 d3 d4 X5 XU XA iprop(∃ d, owns (c : Thread nD τ) yM fullShare d) : sProp 𝕄) ⊢
    wp frame (wpE (defs₀ (F := F)) Variants.none c none) Set.univ (progY i a2 h2 a3 h3 a4 h4 a5 h5 uM (Memref.isWhole_whole _) aM (Memref.isWhole_whole _) yM (Memref.isWhole_whole _))
      (fun _ => res c a2 a3 a4 d2 d3 d4 X5 XU XA (owns (c : Thread nD τ) yM fullShare (k0_pay260 (F := F)))) := by
  unfold res owns progY
  iintro ⟨H2, H3, H4, H5, Hu, Ha, ⟨%dy, %fy, -, Hy⟩⟩
  sl_exec
  sl_step
  isplitl [H2]; · iexact H2
  isplitl [H3]; · iexact H3
  isplitl [H4]; · iexact H4
  isplitl [H5]; · iexact H5
  isplitl [Hu]; · iexact Hu
  isplitl [Ha]; · iexact Ha
  iexists _; isplitr; swap; · iexact Hy
  ipureintro
  exact View.read_writes_full _ _ _ _ []

end Arms

end Cert.KernelIdeal.Hand
-- ==== Proof.IdealGroups.lean ====
/-
  The group products and the output, run by values.
-/
module

public import Idealize.ShloMosaic.Lib.Pipeline.ReadBack
public import proofs.«01_k».proof.Proof.IdealRuns

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 1000000
set_option maxRecDepth 65536

/-! ## The values -/

def plane {α : Type} (y : S3x128x512.Idx → α) (p : Fin 3) : S1x128x512.Idx → α := fun k => y (ix3 p (k 1) (k 2))

/-- The three planes put together. -/
def planes {α : Type} (w : Fin 3 → S1x128x512.Idx → α) : S3x128x512.Idx → α := fun j => w (j 0) (ix3 0 (j 1) (j 2))

def aG (da : S5x256x4608.Idx → Elt F .bf16) (s : Fin 5) (q : Fin 3) : Vec F S1x256x1536 .bf16 := fun j => da (ix3 s (j 1) ⟨1536 * q.val + (j 2).val, by have : (j 2).val < 1536 := (j 2).isLt; omega⟩)
def tG (d3 : S288x16x512.Idx → Elt F .i8) (q : Fin 3) : Vec F S96x16x512 .i8 := fun j => d3 (ix3 ⟨96 * q.val + (j 0).val, by have : (j 0).val < 96 := (j 0).isLt; omega⟩ (j 1) (j 2))
def sG (d4 : S15x512.Idx → Elt F .f32) (s : Fin 5) (q : Fin 3) : Vec F S1x512 .f32 := fun j => d4 (ix2 ⟨3 * s.val + q.val, by omega⟩ (j 1))

/-- One group's product added to one plane of the accumulator. -/
def yPl (p : Fin 3) (t : Vec F S96x16x512 .i8) (a : Vec F S1x256x1536 .bf16) (sc : Vec F S1x512 .f32) (y : Vec F S1x128x512 .f32) : Vec F S1x128x512 .f32 :=
  match p with
  | 0 => k0_pay284 (k0_pay280 t a) (k0_pay281 t a) sc y
  | 1 => k0_pay285 (k0_pay280 t a) (k0_pay281 t a) sc y
  | 2 => k0_pay286 (k0_pay280 t a) (k0_pay281 t a) sc y

/-- Three groups' products, one after another. -/
def yPl3 (p : Fin 3) (da : S5x256x4608.Idx → Elt F .bf16) (s : Fin 5) (d3 : S288x16x512.Idx → Elt F .i8) (d4 : S15x512.Idx → Elt F .f32) (y : Vec F S1x128x512 .f32) : Vec F S1x128x512 .f32 :=
  yPl p (tG d3 2) (aG da s 2) (sG d4 s 2) (yPl p (tG d3 1) (aG da s 1) (sG d4 s 1) (yPl p (tG d3 0) (aG da s 0) (sG d4 s 0) y))

/-- The accumulator after one step. -/
def yNext (da : S5x256x4608.Idx → Elt F .bf16) (s : Fin 5) (d3 : S288x16x512.Idx → Elt F .i8) (d4 : S15x512.Idx → Elt F .f32) (y : S3x128x512.Idx → Elt F .f32) : S3x128x512.Idx → Elt F .f32 :=
  planes fun p => yPl3 p da s d3 d4 (plane y p)

/-- The result from the accumulator. -/
def outOf (y : S3x128x512.Idx → Elt F .f32) : S3x128x512.Idx → Elt F .bf16 :=
  planes fun p => match p with
    | 0 => k0_pay1 (plane y 0)
    | 1 => k0_pay2 (plane y 1)
    | 2 => k0_pay3 (plane y 2)

theorem planes_plane {α : Type} (w : Fin 3 → S1x128x512.Idx → α) (p : Fin 3) : plane (planes w) p = w p := by
  funext k
  refine congrArg (w p) (funext fun a => match a with
    | ⟨0, _⟩ => Fin.ext (by have : (k 0).val < 1 := (k 0).isLt; show 0 = (k 0).val; omega)
    | ⟨1, _⟩ => rfl
    | ⟨2, _⟩ => rfl)

/-! ## Loads and stores of planes -/

section Loads

variable {sig' : RefSig} {κ : Kind} {sp : Space}

theorem readAt_plane {e : EltTy} (v : View sig' κ sp S3x128x512 e) (f) (p : Fin 3) (inb : ∀ a, (![p.val, 0, 0] : Fin 3 → ℕ) a + S1x128x512.size a ≤ S3x128x512.size a) :
    v.readAt (Elt F) (Rect.unit (s := S3x128x512) ![p.val, 0, 0] S1x128x512.size inb).toLoadRect f = plane (v.read (Elt F) f) p := by
  rw [View.readAt_unit _ _ inb rfl inb]
  funext j
  refine congrArg (v.read (Elt F) f) (funext fun a => Fin.ext ?_)
  match a with
  | ⟨0, _⟩ => have : (j 0).val < 1 := (j 0).isLt; show p.val + 1 * (j 0).val = p.val; omega
  | ⟨1, _⟩ => show 0 + 1 * (j 1).val = (j 1).val; omega
  | ⟨2, _⟩ => show 0 + 1 * (j 2).val = (j 2).val; omega

theorem readAt_aG (v : View sig' κ sp S5x256x4608 .bf16) (f) (s : Fin 5) (q : Fin 3) (off : Fin 3 → ℕ) (h : off = ![s.val, 0, 1536 * q.val]) (inb : ∀ a, off a + S1x256x1536.size a ≤ S5x256x4608.size a) :
    v.readAt (Elt F) (Rect.unit (s := S5x256x4608) off S1x256x1536.size inb).toLoadRect f = aG (v.read (Elt F) f) s q := by
  subst h
  rw [View.readAt_unit _ _ inb rfl inb]
  funext j
  refine congrArg (v.read (Elt F) f) (funext fun a => Fin.ext ?_)
  match a with
  | ⟨0, _⟩ => have : (j 0).val < 1 := (j 0).isLt; show s.val + 1 * (j 0).val = s.val; omega
  | ⟨1, _⟩ => show 0 + 1 * (j 1).val = (j 1).val; omega
  | ⟨2, _⟩ => show 1536 * q.val + 1 * (j 2).val = 1536 * q.val + (j 2).val; omega

theorem readAt_tG (v : View sig' κ sp S288x16x512 .i8) (f) (q : Fin 3) (inb : ∀ a, (![96 * q.val, 0, 0] : Fin 3 → ℕ) a + S96x16x512.size a ≤ S288x16x512.size a) :
    v.readAt (Elt F) (Rect.unit (s := S288x16x512) ![96 * q.val, 0, 0] S96x16x512.size inb).toLoadRect f = tG (v.read (Elt F) f) q := by
  rw [View.readAt_unit _ _ inb rfl inb]
  funext j
  refine congrArg (v.read (Elt F) f) (funext fun a => Fin.ext ?_)
  match a with
  | ⟨0, _⟩ => show 96 * q.val + 1 * (j 0).val = 96 * q.val + (j 0).val; omega
  | ⟨1, _⟩ => show 0 + 1 * (j 1).val = (j 1).val; omega
  | ⟨2, _⟩ => show 0 + 1 * (j 2).val = (j 2).val; omega

theorem readAt_sG (v : View sig' κ sp S15x512 .f32) (f) (s : Fin 5) (q : Fin 3) (off : Fin 2 → ℕ) (h : off = ![3 * s.val + q.val, 0]) (inb : ∀ a, off a + S1x512.size a ≤ S15x512.size a) :
    v.readAt (Elt F) (Rect.unit (s := S15x512) off S1x512.size inb).toLoadRect f = sG (v.read (Elt F) f) s q := by
  subst h
  rw [View.readAt_unit _ _ inb rfl inb]
  funext j
  refine congrArg (v.read (Elt F) f) (funext fun a => Fin.ext ?_)
  match a with
  | ⟨0, _⟩ => have : (j 0).val < 1 := (j 0).isLt; show 3 * s.val + q.val + 1 * (j 0).val = 3 * s.val + q.val; omega
  | ⟨1, _⟩ => show 0 + 1 * (j 1).val = (j 1).val; omega

/-- Three stores, a plane each, over anything. -/
theorem read_planes {e : EltTy} (v : View sig' κ sp S3x128x512 e) (f) (inb0 inb1 inb2) (w : Fin 3 → S1x128x512.Idx → Elt F e) (L : List (View.Piece (Elt F) S3x128x512 e)) :
    v.read (Elt F) (v.writes (Elt F) f (⟨Rect.unit ![2, 0, 0] S1x128x512.size inb2, w 2⟩ :: ⟨Rect.unit ![1, 0, 0] S1x128x512.size inb1, w 1⟩ :: ⟨Rect.unit ![0, 0, 0] S1x128x512.size inb0, w 0⟩ :: L)) = planes w := by
  have key : ∀ (p : Fin 3) (inb : ∀ a, (![p.val, 0, 0] : Fin 3 → ℕ) a + S1x128x512.size a ≤ S3x128x512.size a) (f') (M : List (View.Piece (Elt F) S3x128x512 e)) (j : S3x128x512.Idx),
      v.read (Elt F) (v.writes (Elt F) f' (⟨Rect.unit ![p.val, 0, 0] S1x128x512.size inb, w p⟩ :: M)) j = if (j 0).val = p.val then planes w j else v.read (Elt F) (v.writes (Elt F) f' M) j := by
    intro p inb f' M j
    split
    case isTrue h =>
      refine (View.read_writes_cons_unit_of_mem v f' inb (w p) M j (ix3 0 (j 1) (j 2) : S1x128x512.Idx) rfl fun a => ?_).trans ?_
      · match a with
        | ⟨0, _⟩ => exact h
        | ⟨1, _⟩ => show (j 1).val = 0 + (j 1).val; omega
        | ⟨2, _⟩ => show (j 2).val = 0 + (j 2).val; omega
      · have hp : j 0 = p := Fin.ext h
        exact congrFun (congrArg w hp.symm) _
    case isFalse h =>
      refine View.read_writes_cons_unit_of_not_mem v f' inb (w p) M j rfl 0 ?_
      show (j 0).val < p.val ∨ p.val + 1 ≤ (j 0).val
      omega
  funext j
  have hj : (j 0).val < 3 := (j 0).isLt
  refine (key 2 inb2 f _ j).trans ?_
  split
  · rfl
  refine (key 1 inb1 f _ j).trans ?_
  split
  · rfl
  refine (key 0 inb0 f _ j).trans (if_pos ?_)
  show (j 0).val = 0
  rename_i h2 h1
  have h2' : ¬ (j 0).val = 2 := h2
  have h1' : ¬ (j 0).val = 1 := h1
  omega

/-- A plane's rectangle. -/
abbrev rP (p : Fin 3) : Rect S3x128x512 := Rect.unit ![p.val, 0, 0] S1x128x512.size (fun a => match a with
  | ⟨0, _⟩ => by show p.val + 1 ≤ 3; omega
  | ⟨1, _⟩ => by show 0 + 128 ≤ 128; omega
  | ⟨2, _⟩ => by show 0 + 512 ≤ 512; omega)

/-- A store of a plane. -/
abbrev pP {e : EltTy} (p : Fin 3) (w : S1x128x512.Idx → Elt F e) : View.Piece (Elt F) S3x128x512 e := ⟨rP p, w⟩

/-- Three rounds' stores, the newest first: each reads a plane, and stores what a function makes of it. -/
def rounds {e : EltTy} (v : View sig' κ sp S3x128x512 e) (f : v.ty.Contents (Elt F)) (g : Fin 3 → Fin 3 → (S1x128x512.Idx → Elt F e) → S1x128x512.Idx → Elt F e) : List (View.Piece (Elt F) S3x128x512 e) :=
  let L1 : List (View.Piece (Elt F) S3x128x512 e) := [pP 2 (g 0 2 (v.readAt (Elt F) (rP 2).toLoadRect f)), pP 1 (g 0 1 (v.readAt (Elt F) (rP 1).toLoadRect f)), pP 0 (g 0 0 (v.readAt (Elt F) (rP 0).toLoadRect f))]
  let L2 : List (View.Piece (Elt F) S3x128x512 e) := pP 0 (g 1 0 (v.readCov L1 (rP 0).toLoadRect)) :: L1
  let L3 : List (View.Piece (Elt F) S3x128x512 e) := pP 1 (g 1 1 (v.readCov L2 (rP 1).toLoadRect)) :: L2
  let L4 : List (View.Piece (Elt F) S3x128x512 e) := pP 2 (g 1 2 (v.readCov L3 (rP 2).toLoadRect)) :: L3
  let L5 : List (View.Piece (Elt F) S3x128x512 e) := pP 0 (g 2 0 (v.readCov L4 (rP 0).toLoadRect)) :: L4
  let L6 : List (View.Piece (Elt F) S3x128x512 e) := pP 1 (g 2 1 (v.readCov L5 (rP 1).toLoadRect)) :: L5
  pP 2 (g 2 2 (v.readCov L6 (rP 2).toLoadRect)) :: L6

theorem read_rounds {e : EltTy} (v : View sig' κ sp S3x128x512 e) (f f' : v.ty.Contents (Elt F)) (g : Fin 3 → Fin 3 → (S1x128x512.Idx → Elt F e) → S1x128x512.Idx → Elt F e) :
    v.read (Elt F) (v.writes (Elt F) f' (rounds v f g)) = planes fun p => g 2 p (g 1 p (g 0 p (plane (v.read (Elt F) f) p))) := by
  unfold rounds
  have hr : ∀ p : Fin 3, v.readAt (Elt F) (rP p).toLoadRect f = plane (v.read (Elt F) f) p := fun p => readAt_plane v f p _
  dsimp only
  rw [hr 0, hr 1, hr 2]
  generalize plane (v.read (Elt F) f) = y
  have k01 := fun (w : (rP 1).shape.Idx → Elt F e) L => View.readCov_skip v (rP 1) w L (rP 0).toLoadRect (by decide)
  have k02 := fun (w : (rP 2).shape.Idx → Elt F e) L => View.readCov_skip v (rP 2) w L (rP 0).toLoadRect (by decide)
  have k10 := fun (w : (rP 0).shape.Idx → Elt F e) L => View.readCov_skip v (rP 0) w L (rP 1).toLoadRect (by decide)
  have k12 := fun (w : (rP 2).shape.Idx → Elt F e) L => View.readCov_skip v (rP 2) w L (rP 1).toLoadRect (by decide)
  have k20 := fun (w : (rP 0).shape.Idx → Elt F e) L => View.readCov_skip v (rP 0) w L (rP 2).toLoadRect (by decide)
  have k21 := fun (w : (rP 1).shape.Idx → Elt F e) L => View.readCov_skip v (rP 1) w L (rP 2).toLoadRect (by decide)
  have s0 := fun (w : (rP 0).shape.Idx → Elt F e) L => View.readCov_cons_toLoadRect v (rP 0) w L
  have s1 := fun (w : (rP 1).shape.Idx → Elt F e) L => View.readCov_cons_toLoadRect v (rP 1) w L
  have s2 := fun (w : (rP 2).shape.Idx → Elt F e) L => View.readCov_cons_toLoadRect v (rP 2) w L
  rw [k02, k01, s0]
  rw [k10, k12, s1]
  rw [k21, k20, s2]
  rw [k02, k01, s0]
  rw [k10, k12, s1]
  rw [k21, k20, s2]
  exact read_planes v f' _ _ _ (fun p => g 2 p (g 1 p (g 0 p (y p)))) _

theorem cov_rounds {e : EltTy} (v : View sig' κ sp S3x128x512 e) (f : v.ty.Contents (Elt F)) (g : Fin 3 → Fin 3 → (S1x128x512.Idx → Elt F e) → S1x128x512.Idx → Elt F e) (p : Fin 3) :
    v.readCov (rounds v f g) (rP p).toLoadRect = g 2 p (g 1 p (g 0 p (plane (v.read (Elt F) f) p))) := by
  refine (readAt_plane v _ p _).trans ?_
  rw [read_rounds]
  exact planes_plane _ p

end Loads

section Arms

variable (i : grid0.Coords) (c : Dev nD) (a2 : Memref sig .tc .vmem S3x720x128 .i8) (h2 : a2.IsWhole) (a3 : Memref sig .tc .vmem S288x16x512 .i8) (h3 : a3.IsWhole) (a4 : Memref sig .tc .vmem S15x512 .f32) (h4 : a4.IsWhole) (a5 : Memref sig .tc .vmem S3x128x512 .bf16) (h5 : a5.IsWhole)
  (d2 : S3x720x128.Idx → Elt F .i8) (d3 : S288x16x512.Idx → Elt F .i8) (d4 : S15x512.Idx → Elt F .f32)

/-- The three groups' updates as the body loads their operands. -/
def gLoad (f3 : a3.view.ty.Contents (Elt F)) (f4 : a4.view.ty.Contents (Elt F)) (fa : aM.view.ty.Contents (Elt F)) (q p : Fin 3) : (S1x128x512.Idx → Elt F .f32) → S1x128x512.Idx → Elt F .f32 :=
  match q with
    | 0 => yPl p (a3.view.readAt (Elt F) (Rect.unit (s := S288x16x512) ![0, 0, 0] S96x16x512.size inb_S288x16x512_S96x16x512_0_0_0).toLoadRect f3)
        (aM.view.readAt (Elt F) (Rect.unit (s := S5x256x4608) (k0_off74 i) S1x256x1536.size (k0_off74_inb i)).toLoadRect fa)
        (a4.view.readAt (Elt F) (Rect.unit (s := S15x512) (k0_off75 i 0#32) S1x512.size (k0_off75_inb i 0)).toLoadRect f4)
    | 1 => yPl p (a3.view.readAt (Elt F) (Rect.unit (s := S288x16x512) ![96, 0, 0] S96x16x512.size inb_S288x16x512_S96x16x512_96_0_0).toLoadRect f3)
        (aM.view.readAt (Elt F) (Rect.unit (s := S5x256x4608) (k0_off76 i) S1x256x1536.size (k0_off76_inb i)).toLoadRect fa)
        (a4.view.readAt (Elt F) (Rect.unit (s := S15x512) (k0_off75 i 1#32) S1x512.size (k0_off75_inb i 1)).toLoadRect f4)
    | 2 => yPl p (a3.view.readAt (Elt F) (Rect.unit (s := S288x16x512) ![192, 0, 0] S96x16x512.size inb_S288x16x512_S96x16x512_192_0_0).toLoadRect f3)
        (aM.view.readAt (Elt F) (Rect.unit (s := S5x256x4608) (k0_off77 i) S1x256x1536.size (k0_off77_inb i)).toLoadRect fa)
        (a4.view.readAt (Elt F) (Rect.unit (s := S15x512) (k0_off75 i 2#32) S1x512.size (k0_off75_inb i 2)).toLoadRect f4)

theorem gLoad_eq (f3 : a3.view.ty.Contents (Elt F)) (f4 : a4.view.ty.Contents (Elt F)) (fa : aM.view.ty.Contents (Elt F)) (q p : Fin 3) :
    gLoad i a3 a4 f3 f4 fa q p = yPl p (tG (a3.view.read (Elt F) f3) q) (aG (aM.view.read (Elt F) fa) (i 1) q) (sG (a4.view.read (Elt F) f4) (i 1) q) := by
  match q with
  | 0 => exact congr (congr (congrArg (yPl p) (readAt_tG a3.view f3 0 _)) (readAt_aG aM.view fa (i 1) 0 _ (k0_off74_eq i) _)) (readAt_sG a4.view f4 (i 1) 0 _ (k0_off75_eq i 0) _)
  | 1 => exact congr (congr (congrArg (yPl p) (readAt_tG a3.view f3 1 _)) (readAt_aG aM.view fa (i 1) 1 _ (k0_off76_eq i) _)) (readAt_sG a4.view f4 (i 1) 1 _ (k0_off75_eq i 1) _)
  | 2 => exact congr (congr (congrArg (yPl p) (readAt_tG a3.view f3 2 _)) (readAt_aG aM.view fa (i 1) 2 _ (k0_off77_eq i) _)) (readAt_sG a4.view f4 (i 1) 2 _ (k0_off75_eq i 2) _)

theorem gLoad_chain (f3 : a3.view.ty.Contents (Elt F)) (f4 : a4.view.ty.Contents (Elt F)) (fa : aM.view.ty.Contents (Elt F)) (p : Fin 3) (y : S1x128x512.Idx → Elt F .f32) :
    gLoad i a3 a4 f3 f4 fa 2 p (gLoad i a3 a4 f3 f4 fa 1 p (gLoad i a3 a4 f3 f4 fa 0 p y)) = yPl3 p (aM.view.read (Elt F) fa) (i 1) (a3.view.read (Elt F) f3) (a4.view.read (Elt F) f4) y := by
  rw [gLoad_eq, gLoad_eq, gLoad_eq]; rfl

theorem read_gLoad (f3 : a3.view.ty.Contents (Elt F)) (f4 : a4.view.ty.Contents (Elt F)) (fa : aM.view.ty.Contents (Elt F)) (fy f' : yM.view.ty.Contents (Elt F)) :
    yM.view.read (Elt F) (yM.view.writes (Elt F) f' (rounds yM.view fy (gLoad i a3 a4 f3 f4 fa))) = yNext (aM.view.read (Elt F) fa) (i 1) (a3.view.read (Elt F) f3) (a4.view.read (Elt F) f4) (yM.view.read (Elt F) fy) :=
  (read_rounds yM.view fy f' _).trans (congrArg planes (funext fun p => gLoad_chain i a3 a4 f3 f4 fa p _))

theorem runG (da : S5x256x4608.Idx → Elt F .bf16) (dy : S3x128x512.Idx → Elt F .f32) (h : ¬ k0_cond4 i = 1#1) (X5 XU : sProp 𝕄) :
    (res c a2 a3 a4 d2 d3 d4 X5 XU (owns (c : Thread nD τ) aM fullShare da) (owns (c : Thread nD τ) yM fullShare dy) : sProp 𝕄) ⊢
    wp frame (wpE (defs₀ (F := F)) Variants.none c none) Set.univ (progG i a2 h2 a3 h3 a4 h4 a5 h5 uM (Memref.isWhole_whole _) aM (Memref.isWhole_whole _) yM (Memref.isWhole_whole _))
      (fun _ => res c a2 a3 a4 d2 d3 d4 X5 XU (owns (c : Thread nD τ) aM fullShare da) (owns (c : Thread nD τ) yM fullShare (yNext da (i 1) d3 d4 dy))) := by
  unfold res owns progG progG1
  iintro ⟨H2, ⟨%f3, %hf3, H3⟩, ⟨%f4, %hf4, H4⟩, H5, Hu, ⟨%fa, %hfa, Ha⟩, ⟨%fy, %hfy, Hy⟩⟩
  sl_exec
  sl_step
  isplitl [H2]; · iexact H2
  isplitl [H3]
  · iexists _; isplitr; swap; · iexact H3
    ipureintro; exact hf3
  isplitl [H4]
  · iexists _; isplitr; swap; · iexact H4
    ipureintro; exact hf4
  isplitl [H5]; · iexact H5
  isplitl [Hu]; · iexact Hu
  isplitl [Ha]
  · iexists _; isplitr; swap; · iexact Ha
    ipureintro; exact hfa
  iexists _; isplitr; swap; · iexact Hy
  ipureintro
  subst hf3 hf4 hfa hfy
  exact read_gLoad i a3 a4 f3 f4 fa fy fy

theorem runGout (da : S5x256x4608.Idx → Elt F .bf16) (dy : S3x128x512.Idx → Elt F .f32) (h : k0_cond4 i = 1#1) (XU : sProp 𝕄) :
    (res c a2 a3 a4 d2 d3 d4 iprop(∃ d, owns (c : Thread nD τ) a5 fullShare d) XU (owns (c : Thread nD τ) aM fullShare da) (owns (c : Thread nD τ) yM fullShare dy) : sProp 𝕄) ⊢
    wp frame (wpE (defs₀ (F := F)) Variants.none c none) Set.univ (progG i a2 h2 a3 h3 a4 h4 a5 h5 uM (Memref.isWhole_whole _) aM (Memref.isWhole_whole _) yM (Memref.isWhole_whole _))
      (fun _ => res c a2 a3 a4 d2 d3 d4 (owns (c : Thread nD τ) a5 fullShare (outOf (yNext da (i 1) d3 d4 dy))) XU (owns (c : Thread nD τ) aM fullShare da) (owns (c : Thread nD τ) yM fullShare (yNext da (i 1) d3 d4 dy))) := by
  unfold res owns progG progG1
  iintro ⟨H2, ⟨%f3, %hf3, H3⟩, ⟨%f4, %hf4, H4⟩, ⟨%d5, %f5, -, H5⟩, Hu, ⟨%fa, %hfa, Ha⟩, ⟨%fy, %hfy, Hy⟩⟩
  sl_exec
  sl_step
  isplitl [H2]; · iexact H2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    subst hf3 hf4 hfa hfy
    refine (read_planes (F := F) a5.view f5 _ _ _ (fun p => match p with
      | 0 => k0_pay1 (yM.view.readCov (rounds yM.view fy (gLoad i a3 a4 f3 f4 fa)) (rP 0).toLoadRect)
      | 1 => k0_pay2 (yM.view.readCov (rounds yM.view fy (gLoad i a3 a4 f3 f4 fa)) (rP 1).toLoadRect)
      | 2 => k0_pay3 (yM.view.readCov (rounds yM.view fy (gLoad i a3 a4 f3 f4 fa)) (rP 2).toLoadRect)) []).trans ?_
    rw [cov_rounds, cov_rounds, cov_rounds, gLoad_chain, gLoad_chain, gLoad_chain]
    unfold outOf yNext
    rw [planes_plane, planes_plane, planes_plane]
  isplitl [Hu]; · iexact Hu
  isplitl [Ha]
  · iexists _; isplitr; swap; · iexact Ha
    ipureintro; exact hfa
  iexists _; isplitr; swap; · iexact Hy
  ipureintro
  subst hf3 hf4 hfa hfy
  exact read_gLoad i a3 a4 f3 f4 fa fy fy

end Arms

end Cert.KernelIdeal.Hand
-- ==== Proof.KernelValue.lean ====
/-
  The kernel's arithmetic over the extended reals: what one group adds to the accumulator, and what the accumulator and the
  result hold at every index.
-/
module

public import proofs.«01_k».proof.Proof.GroupMath
public import proofs.«01_k».proof.Proof.IdealGroups

@[expose] public section

noncomputable section

namespace Cert.KernelIdeal.Hand

open Cert.KernelIdeal Cert.KernelIdeal.Gen Cert.GroupMath
open Idealize.ShloMosaic

/-- A code as a centroid's number. -/
def cd (d : S3x720x128.Idx → BitVec 8) (b : Fin 3) (s : Fin 128) (m : Fin 1440) : Fin 16 := ⟨(nib d b s m).toNat, nib_lt d b s m⟩

theorem cmp16 : ∀ a b : Fin 16, IntOp.cmpi .eq (BitVec.ofNat 16 a.val) (BitVec.ofNat 16 b.val) = if a = b then 1#1 else 0#1 := by decide +kernel

theorem sel16 (a b : Fin 16) (u v : EReal) :
    Scalar.select (IntOp.cmpi .eq (BitVec.ofNat 16 a.val) (BitVec.ofNat 16 b.val)) u v = if a = b then u else v := by
  rw [cmp16]
  by_cases h : a = b
  · rw [if_pos h, if_pos h]; rfl
  · rw [if_neg h, if_neg h]; rfl

theorem ite_coe (p : Prop) [Decidable p] (u : ℝ) : (if p then (u : EReal) else 0) = ((if p then u else 0 : ℝ) : EReal) := by
  split <;> rfl

theorem p1E_code (n0 n1 n2 k : Fin 16) (g : BitVec 16)
    (hg : g = (BitVec.ofNat 16 n0.val ||| (BitVec.ofNat 16 n1.val <<< 5)) ||| (BitVec.ofNat 16 n2.val <<< 10)) :
    p1E (F := Ideal) g (BitVec.ofNat 16 k.val)
      = ((if n0 = k then -(1 / 32768) else 0 : ℝ) : EReal) + ((if n1 = k then 1 / 128 else 0 : ℝ) : EReal) := by
  obtain ⟨h0, h1, h2⟩ := fields n0 n1 n2
  subst hg
  unfold p1E
  rw [h0, h1]
  pointwise []
  rw [sel16, sel16, c_neg, c_128, ite_coe, ite_coe]

theorem p2E_code (n0 n1 n2 k : Fin 16) (g : BitVec 16)
    (hg : g = (BitVec.ofNat 16 n0.val ||| (BitVec.ofNat 16 n1.val <<< 5)) ||| (BitVec.ofNat 16 n2.val <<< 10)) :
    p2E (F := Ideal) g (BitVec.ofNat 16 k.val)
      = ((if n1 = k then 1 / 128 else 0 : ℝ) : EReal) + ((if n2 = k then 1 else 0 : ℝ) : EReal) := by
  obtain ⟨h0, h1, h2⟩ := fields n0 n1 n2
  subst hg
  unfold p2E
  rw [h1, h2]
  simp only [Ideal.addf_def, Ideal.ofBits_def]
  rw [sel16, sel16, c_1, c_128, Ideal.ofBits_zero .bf16, ite_coe, ite_coe]

/-- The subspace of row `j` of group `q` of step `st`. -/
def sub (st : Fin 5) (q : Fin 3) (j : Fin 96) : Fin 1440 := ⟨288 * st.val + 96 * q.val + j.val, by omega⟩

theorem aG_up (d : S3x720x128.Idx → BitVec 8) (st : Fin 5) (q : Fin 3) (s : Fin 128) (x : Fin 1536) :
    aG (F := Ideal) (aSpec (F := Ideal) (wOf (F := Ideal) d)) st q (ix3 0 ⟨s.val, by omega⟩ x)
      = ((if cd d 0 s (sub st q ⟨x.val / 16, by omega⟩) = ⟨x.val % 16, Nat.mod_lt _ (by decide)⟩ then -(1 / 32768) else 0 : ℝ) : EReal)
        + ((if cd d 1 s (sub st q ⟨x.val / 16, by omega⟩) = ⟨x.val % 16, Nat.mod_lt _ (by decide)⟩ then 1 / 128 else 0 : ℝ) : EReal) := by
  refine Eq.trans ?_ (p1E_code _ _ (cd d 2 s (sub st q ⟨x.val / 16, by omega⟩)) _ _ (pk_wOf (F := Ideal) d s (sub st q ⟨x.val / 16, by omega⟩)))
  unfold aG aSpec
  dsimp only
  have hs : ((ix3 st (ix3 (0 : Fin 1) (⟨s.val, by omega⟩ : Fin 256) x 1) (⟨1536 * q.val + (ix3 (0 : Fin 1) (⟨s.val, by omega⟩ : Fin 256) x 2).val, by have := x.isLt; show 1536 * q.val + x.val < 4608; omega⟩ : Fin 4608) : S5x256x4608.Idx) 1).val < 128 := s.isLt
  rw [dif_pos hs]
  have e1 : 288 * st.val + (1536 * q.val + x.val) / 16 = 288 * st.val + 96 * q.val + x.val / 16 := by omega
  have e2 : (1536 * q.val + x.val) % 16 = x.val % 16 := by omega
  show p1E (pk (wOf (F := Ideal) d) ⟨s.val, _⟩ ⟨288 * st.val + (1536 * q.val + x.val) / 16, _⟩) (BitVec.ofNat 16 ((1536 * q.val + x.val) % 16)) = _
  simp only [e1, e2]
  rfl

theorem aG_lo (d : S3x720x128.Idx → BitVec 8) (st : Fin 5) (q : Fin 3) (s : Fin 128) (x : Fin 1536) :
    aG (F := Ideal) (aSpec (F := Ideal) (wOf (F := Ideal) d)) st q (ix3 0 ⟨128 + s.val, by omega⟩ x)
      = ((if cd d 1 s (sub st q ⟨x.val / 16, by omega⟩) = ⟨x.val % 16, Nat.mod_lt _ (by decide)⟩ then 1 / 128 else 0 : ℝ) : EReal)
        + ((if cd d 2 s (sub st q ⟨x.val / 16, by omega⟩) = ⟨x.val % 16, Nat.mod_lt _ (by decide)⟩ then 1 else 0 : ℝ) : EReal) := by
  refine Eq.trans ?_ (p2E_code (cd d 0 s (sub st q ⟨x.val / 16, by omega⟩)) _ _ _ _ (pk_wOf (F := Ideal) d s (sub st q ⟨x.val / 16, by omega⟩)))
  unfold aG aSpec
  dsimp only
  have hs : ¬ ((ix3 st (ix3 (0 : Fin 1) (⟨128 + s.val, by omega⟩ : Fin 256) x 1) (⟨1536 * q.val + (ix3 (0 : Fin 1) (⟨128 + s.val, by omega⟩ : Fin 256) x 2).val, by have := x.isLt; show 1536 * q.val + x.val < 4608; omega⟩ : Fin 4608) : S5x256x4608.Idx) 1).val < 128 := by
    show ¬ 128 + s.val < 128; omega
  rw [dif_neg hs]
  have e1 : 288 * st.val + (1536 * q.val + x.val) / 16 = 288 * st.val + 96 * q.val + x.val / 16 := by omega
  have e2 : (1536 * q.val + x.val) % 16 = x.val % 16 := by omega
  have e3 : 128 + s.val - 128 = s.val := by omega
  show p2E (pk (wOf (F := Ideal) d) ⟨128 + s.val - 128, _⟩ ⟨288 * st.val + (1536 * q.val + x.val) / 16, _⟩) (BitVec.ofNat 16 ((1536 * q.val + x.val) % 16)) = _
  simp only [e1, e2, e3]
  rfl

/-- A group's sum of the table entries its codes choose. -/
def gsum (t : Vec Ideal S96x16x512 .i8) (x : Fin 96 → Fin 16) (n : Fin 512) : ℤ := ∑ j, (t (ix3 j (x j) n)).toInt

theorem gsum_le (t : Vec Ideal S96x16x512 .i8) (x : Fin 96 → Fin 16) (n : Fin 512) : |gsum t x n| ≤ 12288 := by
  refine sum_abs_le _ fun j => ?_
  have h1 := BitVec.toInt_lt (x := t (ix3 j (x j) n))
  have h2 := BitVec.le_toInt (x := t (ix3 j (x j) n))
  rw [abs_le]; constructor <;> omega

theorem up_apply (d : S3x720x128.Idx → BitVec 8) (t : Vec Ideal S96x16x512 .i8) (st : Fin 5) (q : Fin 3) (s : Fin 128) (n : Fin 512) :
    k0_pay280 (F := Ideal) t (aG (aSpec (F := Ideal) (wOf (F := Ideal) d)) st q) (ix2 s n)
      = ((-(1 / 32768) * (gsum t (fun j => cd d 0 s (sub st q j)) n : ℝ) + (1 / 128) * (gsum t (fun j => cd d 1 s (sub st q j)) n : ℝ) : ℝ) : EReal) := by
  pointwise [k0_pay280, k0_pay279]
  simp only [aG_up]
  refine Eq.trans ?_ (sum_onehot2 (fun j r => (t (ix3 j r n)).toInt) (fun j => cd d 0 s (sub st q j)) (fun j => cd d 1 s (sub st q j)) _ _)
  exact sum_rows fun j r => (((if cd d 0 s (sub st q j) = r then -(1 / 32768) else 0 : ℝ) : EReal) + ((if cd d 1 s (sub st q j) = r then 1 / 128 else 0 : ℝ) : EReal)) * ((((t (ix3 j r n)).toInt : ℤ) : ℝ) : EReal)

theorem lo_apply (d : S3x720x128.Idx → BitVec 8) (t : Vec Ideal S96x16x512 .i8) (st : Fin 5) (q : Fin 3) (s : Fin 128) (n : Fin 512) :
    k0_pay281 (F := Ideal) t (aG (aSpec (F := Ideal) (wOf (F := Ideal) d)) st q) (ix2 s n)
      = ((1 / 128 * (gsum t (fun j => cd d 1 s (sub st q j)) n : ℝ) + 1 * (gsum t (fun j => cd d 2 s (sub st q j)) n : ℝ) : ℝ) : EReal) := by
  pointwise [k0_pay281, k0_pay279]
  simp only [aG_lo]
  have h := sum_onehot2 (fun j r => (t (ix3 j r n)).toInt) (fun j => cd d 1 s (sub st q j)) (fun j => cd d 2 s (sub st q j)) (1 / 128) 1
  rw [one_mul] at h
  refine Eq.trans ?_ h
  exact sum_rows fun j r => (((if cd d 1 s (sub st q j) = r then 1 / 128 else 0 : ℝ) : EReal) + ((if cd d 2 s (sub st q j) = r then 1 else 0 : ℝ) : EReal)) * ((((t (ix3 j r n)).toInt : ℤ) : ℝ) : EReal)

/-- What plane `p` of the accumulator is scaled by. -/
def cf (p : Fin 3) : ℝ := match p with
  | 0 => 1 / 32768
  | 1 => 1 / 128
  | 2 => 1

theorem yPl_apply (p : Fin 3) (d : S3x720x128.Idx → BitVec 8) (t : Vec Ideal S96x16x512 .i8) (st : Fin 5) (q : Fin 3) (sc : Vec Ideal S1x512 .f32)
    (y : Vec Ideal S1x128x512 .f32) (s : Fin 128) (n : Fin 512) :
    yPl (F := Ideal) p t (aG (aSpec (F := Ideal) (wOf (F := Ideal) d)) st q) sc y (ix3 0 s n)
      = (y (ix3 0 s n) : EReal) + ((cf p * (gsum t (fun j => cd d p s (sub st q j)) n : ℝ) : ℝ) : EReal) * (sc (ix2 0 n) : EReal) := by
  have hu := up_apply d t st q s n
  have hl := lo_apply d t st q s n
  have h0 := gsum_le t (fun j => cd d 0 s (sub st q j)) n
  match p with
  | 0 =>
    show k0_pay284 _ _ _ _ _ = _
    pointwise [k0_pay284, k0_pay283, k0_pay282]
    rw [hu, hl, third _ _ _ h0, second, first]
    rfl
  | 1 =>
    show k0_pay285 _ _ _ _ _ = _
    pointwise [k0_pay285, k0_pay283, k0_pay282]
    rw [hu, hl, third _ _ _ h0, second]
    rfl
  | 2 =>
    show k0_pay286 _ _ _ _ _ = _
    pointwise [k0_pay286, k0_pay282]
    rw [hu, hl, third _ _ _ h0]
    show _ = _ + ((1 * _ : ℝ) : EReal) * _
    rw [one_mul]

/-- What group `g` adds to plane `p`, over a table's tile and the scales' columns. -/
def gterm (d : S3x720x128.Idx → BitVec 8) (d3 : S288x16x512.Idx → BitVec 8) (d4 : S15x512.Idx → EReal) (p : Fin 3) (st : Fin 5) (s : Fin 128) (n : Fin 512) (q : Fin 3) : EReal :=
  ((cf p * (gsum (tG (F := Ideal) d3 q) (fun j => cd d p s (sub st q j)) n : ℝ) : ℝ) : EReal) * d4 (ix2 ⟨3 * st.val + q.val, by omega⟩ n)

theorem yNext_apply (d : S3x720x128.Idx → BitVec 8) (d3 : S288x16x512.Idx → BitVec 8) (d4 : S15x512.Idx → EReal) (p : Fin 3) (st : Fin 5)
    (y : S3x128x512.Idx → EReal) (s : Fin 128) (n : Fin 512) :
    yNext (F := Ideal) (aSpec (F := Ideal) (wOf (F := Ideal) d)) st d3 d4 y (ix3 p s n)
      = y (ix3 p s n) + gterm d d3 d4 p st s n 0 + gterm d d3 d4 p st s n 1 + gterm d d3 d4 p st s n 2 := by
  show yPl3 (F := Ideal) p (aSpec (F := Ideal) (wOf (F := Ideal) d)) st d3 d4 (plane y p) (ix3 0 s n) = _
  unfold yPl3
  rw [yPl_apply, yPl_apply, yPl_apply]
  rfl

/-- The result from the accumulator. -/
theorem outOf_apply (y : S3x128x512.Idx → EReal) (p : Fin 3) (s : Fin 128) (n : Fin 512) :
    outOf (F := Ideal) y (ix3 p s n) = y (ix3 p s n) * (((cf p)⁻¹ : ℝ) : EReal) := by
  match p with
  | 0 =>
    show k0_pay1 (F := Ideal) (plane y 0) (ix3 0 s n) = _
    pointwise [k0_pay1]
    rw [k_15]
    show y (ix3 0 s n) * _ = y (ix3 0 s n) * (((1 / 32768 : ℝ)⁻¹ : ℝ) : EReal)
    norm_num
  | 1 =>
    show k0_pay2 (F := Ideal) (plane y 1) (ix3 0 s n) = _
    pointwise [k0_pay2]
    rw [k_7]
    show y (ix3 1 s n) * _ = y (ix3 1 s n) * (((1 / 128 : ℝ)⁻¹ : ℝ) : EReal)
    norm_num
  | 2 =>
    show k0_pay3 (F := Ideal) (plane y 2) (ix3 0 s n) = _
    pointwise [k0_pay3]
    show y (ix3 2 s n) = y (ix3 2 s n) * (((1 : ℝ)⁻¹ : ℝ) : EReal)
    norm_num

theorem pay260_apply (j : S3x128x512.Idx) : k0_pay260 (F := Ideal) j = (0 : EReal) := by
  rw [← ix3_eta j]
  pointwise [k0_pay260]

end Cert.KernelIdeal.Hand
-- ==== Proof.IdealLaunch.lean ====
/-
  The body at every grid point by values, and the launch.
-/
module

public import proofs.«01_k».proof.Proof.Gen.KernelIdeal.Frame
public import Idealize.ShloMosaic.Lib.Pipeline.ValueKit.Geometry
public import proofs.«01_k».proof.Proof.IdealGroups

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat BodyObligation)
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 1000000
set_option maxRecDepth 65536

section Arms

variable (i : grid0.Coords) (c : Dev nD) (a2 : Memref sig .tc .vmem S3x720x128 .i8) (h2 : a2.IsWhole) (a3 : Memref sig .tc .vmem S288x16x512 .i8) (h3 : a3.IsWhole) (a4 : Memref sig .tc .vmem S15x512 .f32) (h4 : a4.IsWhole) (a5 : Memref sig .tc .vmem S3x128x512 .bf16) (h5 : a5.IsWhole)
  (d2 : S3x720x128.Idx → Elt F .i8) (d3 : S288x16x512.Idx → Elt F .i8) (d4 : S15x512.Idx → Elt F .f32)

/-- The left-hand side after the step. -/
def aStep (w : IVec S128x768 32) (da : S5x256x4608.Idx → Elt F .bf16) : S5x256x4608.Idx → Elt F .bf16 :=
  if k0_cond2 i = 1#1 then aPut i w da else da

/-- The accumulator after the step, from the one before it. -/
def yStep (w : IVec S128x768 32) (dy : S3x128x512.Idx → Elt F .f32) : S3x128x512.Idx → Elt F .f32 :=
  yNext (aSpec w) (i 1) d3 d4 (if condY i = 1#1 then k0_pay260 else dy)

theorem yNext_congr (da da' : S5x256x4608.Idx → Elt F .bf16) (s : Fin 5) (h : ∀ j : S5x256x4608.Idx, (j 0).val = s.val → da j = da' j) (y : S3x128x512.Idx → Elt F .f32) :
    yNext da s d3 d4 y = yNext da' s d3 d4 y := by
  have hq : ∀ q, aG da s q = aG da' s q := fun q => funext fun j => h _ rfl
  unfold yNext yPl3
  simp only [hq]

theorem kernelRun (W : IVec S128x768 32) (hW : condU i = 1#1 → W = wOf (F := F) d2) (da : S5x256x4608.Idx → Elt F .bf16) (dy : S3x128x512.Idx → Elt F .f32)
    (hs : ∀ j : S5x256x4608.Idx, (j 0).val = (i 1).val → aStep i W da j = aSpec W j) (X5 : sProp 𝕄) (hX5 : X5 ⊢ iprop(∃ d, owns (c : Thread nD τ) a5 fullShare d)) :
    (res c a2 a3 a4 d2 d3 d4 X5 (if condU i = 1#1 then iprop(∃ d, owns (c : Thread nD τ) uM fullShare d) else owns (c : Thread nD τ) uM fullShare (uSpec W))
        (owns (c : Thread nD τ) aM fullShare da) (if condY i = 1#1 then iprop(∃ d, owns (c : Thread nD τ) yM fullShare d) else owns (c : Thread nD τ) yM fullShare dy) : sProp 𝕄) ⊢
    wp frame (wpE (defs₀ (F := F)) Variants.none c none) Set.univ (cc0_pq_packed_onehot i a2 h2 a3 h3 a4 h4 a5 h5 uM (Memref.isWhole_whole _) aM (Memref.isWhole_whole _) yM (Memref.isWhole_whole _))
      (fun _ => res c a2 a3 a4 d2 d3 d4 (if k0_cond4 i = 1#1 then owns (c : Thread nD τ) a5 fullShare (outOf (yStep i d3 d4 W dy)) else X5) (owns (c : Thread nD τ) uM fullShare (uSpec W))
        (owns (c : Thread nD τ) aM fullShare (aStep i W da)) (owns (c : Thread nD τ) yM fullShare (yStep i d3 d4 W dy))) := by
  rw [wp_body]
  dsimp only
  have hY : ∀ y, yNext (aStep i W da) (i 1) d3 d4 y = yNext (aSpec W) (i 1) d3 d4 y := yNext_congr d3 d4 _ _ (i 1) hs
  -- the group products
  have XG : ∀ y : S3x128x512.Idx → Elt F .f32, y = (if condY i = 1#1 then k0_pay260 else dy) →
      (res c a2 a3 a4 d2 d3 d4 X5 (owns (c : Thread nD τ) uM fullShare (uSpec W)) (owns (c : Thread nD τ) aM fullShare (aStep i W da)) (owns (c : Thread nD τ) yM fullShare y) : sProp 𝕄) ⊢
      wp frame (wpE (defs₀ (F := F)) Variants.none c none) Set.univ (progG i a2 h2 a3 h3 a4 h4 a5 h5 uM (Memref.isWhole_whole _) aM (Memref.isWhole_whole _) yM (Memref.isWhole_whole _))
      (fun _ => res c a2 a3 a4 d2 d3 d4 (if k0_cond4 i = 1#1 then owns (c : Thread nD τ) a5 fullShare (outOf (yStep i d3 d4 W dy)) else X5) (owns (c : Thread nD τ) uM fullShare (uSpec W))
        (owns (c : Thread nD τ) aM fullShare (aStep i W da)) (owns (c : Thread nD τ) yM fullShare (yStep i d3 d4 W dy))) := by
    intro y hy
    unfold yStep
    rw [← hy, ← hY]
    by_cases h : k0_cond4 i = 1#1
    · rw [if_pos h]
      refine BIBase.Entails.trans ?_ (runGout i c a2 h2 a3 h3 a4 h4 a5 h5 d2 d3 d4 (aStep i W da) y h _)
      unfold res
      exact sep_mono .rfl (sep_mono .rfl (sep_mono .rfl (sep_mono hX5 .rfl)))
    · rw [if_neg h]
      exact runG i c a2 h2 a3 h3 a4 h4 a5 h5 d2 d3 d4 (aStep i W da) y h X5 _
  -- the accumulator's reset
  have XY : ∀ X : sProp 𝕄, (∀ y : S3x128x512.Idx → Elt F .f32, y = (if condY i = 1#1 then k0_pay260 else dy) →
      res c a2 a3 a4 d2 d3 d4 X5 (owns (c : Thread nD τ) uM fullShare (uSpec W)) (owns (c : Thread nD τ) aM fullShare (aStep i W da)) (owns (c : Thread nD τ) yM fullShare y) ⊢ X) →
      (res c a2 a3 a4 d2 d3 d4 X5 (owns (c : Thread nD τ) uM fullShare (uSpec W)) (owns (c : Thread nD τ) aM fullShare (aStep i W da))
      (if condY i = 1#1 then iprop(∃ d, owns (c : Thread nD τ) yM fullShare d) else owns (c : Thread nD τ) yM fullShare dy) : sProp 𝕄) ⊢
      if condY i = 1#1 then wp frame (wpE (defs₀ (F := F)) Variants.none c none) Set.univ (progY i a2 h2 a3 h3 a4 h4 a5 h5 uM (Memref.isWhole_whole _) aM (Memref.isWhole_whole _) yM (Memref.isWhole_whole _)) (fun _ => X) else X := by
    intro X hX
    by_cases h : condY i = 1#1
    · rw [if_pos h, if_pos h]
      exact (runY i c a2 h2 a3 h3 a4 h4 a5 h5 d2 d3 d4 _ _ _).trans (wp_mono _ _ _ fun _ => hX _ (if_pos h).symm)
    · rw [if_neg h, if_neg h]
      exact hX _ (if_neg h).symm
  -- the slab of the left-hand side
  have XA : ∀ X Y : sProp 𝕄, (res c a2 a3 a4 d2 d3 d4 X5 (owns (c : Thread nD τ) uM fullShare (uSpec W)) (owns (c : Thread nD τ) aM fullShare (aStep i W da)) Y ⊢ X) →
      (res c a2 a3 a4 d2 d3 d4 X5 (owns (c : Thread nD τ) uM fullShare (uSpec W)) (owns (c : Thread nD τ) aM fullShare da) Y : sProp 𝕄) ⊢
      if h2' : k0_cond2 i = 1#1 then wp frame (wpE (defs₀ (F := F)) Variants.none c none) Set.univ (progA i a2 h2 a3 h3 a4 h4 a5 h5 uM (Memref.isWhole_whole _) aM (Memref.isWhole_whole _) yM (Memref.isWhole_whole _) h2') (fun _ => X) else X := by
    intro X Y hX
    by_cases h : k0_cond2 i = 1#1
    · rw [dif_pos h]
      rw [show aStep i W da = aPut i W da from if_pos h] at hX
      exact (runA i c a2 h2 a3 h3 a4 h4 a5 h5 d2 d3 d4 h W da _ _).trans (wp_mono _ _ _ fun _ => hX)
    · rw [dif_neg h]
      rw [show aStep i W da = da from if_neg h] at hX
      exact hX
  -- the packed codes
  have XU : ∀ X A Y : sProp 𝕄, (res c a2 a3 a4 d2 d3 d4 X5 (owns (c : Thread nD τ) uM fullShare (uSpec W)) A Y ⊢ X) →
      (res c a2 a3 a4 d2 d3 d4 X5 (if condU i = 1#1 then iprop(∃ d, owns (c : Thread nD τ) uM fullShare d) else owns (c : Thread nD τ) uM fullShare (uSpec W)) A Y : sProp 𝕄) ⊢
      if condU i = 1#1 then wp frame (wpE (defs₀ (F := F)) Variants.none c none) Set.univ (progU i a2 h2 a3 h3 a4 h4 a5 h5 uM (Memref.isWhole_whole _) aM (Memref.isWhole_whole _) yM (Memref.isWhole_whole _)) (fun _ => X) else X := by
    intro X A Y hX
    by_cases h : condU i = 1#1
    · rw [if_pos h, if_pos h]
      obtain rfl := hW h
      exact (runU i c a2 h2 a3 h3 a4 h4 a5 h5 d2 d3 d4 _ _ _).trans (wp_mono _ _ _ fun _ => hX)
    · rw [if_neg h, if_neg h]
      exact hX
  exact XU _ _ _ (XA _ _ (XY _ XG))

theorem kernelRun_wand (W : IVec S128x768 32) (hW : condU i = 1#1 → W = wOf (F := F) d2) (da : S5x256x4608.Idx → Elt F .bf16) (dy : S3x128x512.Idx → Elt F .f32)
    (hs : ∀ j : S5x256x4608.Idx, (j 0).val = (i 1).val → aStep i W da j = aSpec W j) (X5 : sProp 𝕄) (hX5 : X5 ⊢ iprop(∃ d, owns (c : Thread nD τ) a5 fullShare d)) (K : PUnit → sProp 𝕄) :
    (iprop(res c a2 a3 a4 d2 d3 d4 X5 (if condU i = 1#1 then iprop(∃ d, owns (c : Thread nD τ) uM fullShare d) else owns (c : Thread nD τ) uM fullShare (uSpec W))
        (owns (c : Thread nD τ) aM fullShare da) (if condY i = 1#1 then iprop(∃ d, owns (c : Thread nD τ) yM fullShare d) else owns (c : Thread nD τ) yM fullShare dy)
        ∗ (∀ r, res c a2 a3 a4 d2 d3 d4 (if k0_cond4 i = 1#1 then owns (c : Thread nD τ) a5 fullShare (outOf (yStep i d3 d4 W dy)) else X5) (owns (c : Thread nD τ) uM fullShare (uSpec W))
        (owns (c : Thread nD τ) aM fullShare (aStep i W da)) (owns (c : Thread nD τ) yM fullShare (yStep i d3 d4 W dy)) -∗ K r)) : sProp 𝕄) ⊢
    wp frame (wpE (defs₀ (F := F)) Variants.none c none) Set.univ (cc0_pq_packed_onehot i a2 h2 a3 h3 a4 h4 a5 h5 uM (Memref.isWhole_whole _) aM (Memref.isWhole_whole _) yM (Memref.isWhole_whole _)) K :=
  (sep_mono (kernelRun i c a2 h2 a3 h3 a4 h4 a5 h5 d2 d3 d4 W hW da dy hs X5 hX5) .rfl).trans (wp_wand_r _ _ _)

end Arms

end Cert.KernelIdeal.Hand
-- ==== Proof.IdealRun.lean ====
/-
  The launch by values: what the scratch buffers hold between grid points, the body at every point, the run.
-/
module

public import proofs.«01_k».proof.Proof.Gen.KernelIdeal.Frame
public import Idealize.ShloMosaic.Lib.Pipeline.ValueKit.Geometry
public import proofs.«01_k».proof.Proof.IdealLaunch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat BodyObligation)
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

set_option maxHeartbeats 1000000
set_option maxRecDepth 65536

variable (m : (ℓ : Loc nD τ sig) → Buf (Elt F) ℓ) (ρ : Dev nD → PrngReg)

/-! ## The grid -/

theorem condU_iff : ∀ t : Fin grid0.N, condU (grid0.coords t) = 1#1 ↔ t.val = 0 := by decide +kernel
theorem cond2_iff : ∀ t : Fin grid0.N, k0_cond2 (grid0.coords t) = 1#1 ↔ t.val < 5 := by decide +kernel
theorem condY_iff : ∀ t : Fin grid0.N, condY (grid0.coords t) = 1#1 ↔ t.val % 5 = 0 := by decide +kernel
theorem cond4_iff : ∀ t : Fin grid0.N, k0_cond4 (grid0.coords t) = 1#1 ↔ t.val % 5 = 4 := by decide +kernel
theorem coord1 : ∀ t : Fin grid0.N, (grid0.coords t 1).val = t.val % 5 := by decide +kernel
theorem coord0 : ∀ t : Fin grid0.N, (grid0.coords t 0).val = t.val / 5 := by decide +kernel

/-! ## What the scratch buffers hold -/

/-- The packed codes, from the codes' block. -/
def wAt (c : Dev nD) : IVec S128x768 32 := wOf (F := F) (iblk m c 0 ⟨0, by decide⟩ : S3x720x128.Idx → Elt F .i8)

/-- The accumulator before point `t`, the reset aside. -/
def yAft (c : Dev nD) : (n : ℕ) → n < cfg0.N → S3x128x512.Idx → Elt F .f32
  | 0, h => yStep (grid0.coords ⟨0, h⟩) (iblk m c 1 ⟨0, h⟩) (iblk m c 2 ⟨0, h⟩) (wAt m c) k0_pay260
  | n + 1, h => yStep (grid0.coords ⟨n + 1, h⟩) (iblk m c 1 ⟨n + 1, h⟩) (iblk m c 2 ⟨n + 1, h⟩) (wAt m c) (yAft c n (Nat.lt_of_succ_lt h))

def yBef (c : Dev nD) : (n : ℕ) → n < cfg0.N → S3x128x512.Idx → Elt F .f32
  | 0, _ => k0_pay260
  | n + 1, h => yAft m c n (Nat.lt_of_succ_lt h)

theorem yAft_eq (c : Dev nD) (t : Fin cfg0.N) :
    yAft m c t.val t.isLt = yStep (grid0.coords t) (iblk m c 1 t) (iblk m c 2 t) (wAt m c) (yBef m c t.val t.isLt) := by
  obtain ⟨n, h⟩ := t
  cases n with
  | zero => rw [yAft, yBef]
  | succ n => rw [yAft, yBef]

/-- The invariant before point `n`. -/
def PhiN (c : Dev nD) : (n : ℕ) → n ≤ cfg0.N → sProp 𝕄
  | 0, _ => Pipeline.ΦA spec0 c
  | n + 1, h => iprop((owns (c : Thread nD τ) uM fullShare (uSpec (wAt m c))
      ∗ (∃ da, ⌜∀ j : S5x256x4608.Idx, (j 0).val < n + 1 → da j = aSpec (wAt m c) j⌝ ∗ owns (c : Thread nD τ) aM fullShare da)
      ∗ owns (c : Thread nD τ) yM fullShare (yAft m c n h)) ∗ ∃ r, prngReg c r)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outOf (yAft m c t.val t.isLt)
  Φ t := PhiN m c t.val (Nat.le_of_lt_succ t.isLt)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outOf (yAft m c t.val t.isLt) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant between regions, buffer by buffer. -/
theorem PhiA0_eq (c : Dev nD) :
    (Pipeline.ΦA spec0 c : sProp 𝕄)
      = iprop(((∃ d, owns (c : Thread nD τ) uM fullShare d) ∗ (∃ d, owns (c : Thread nD τ) aM fullShare d)
          ∗ (∃ d, owns (c : Thread nD τ) yM fullShare d)) ∗ ∃ r, prngReg c r) := by
  unfold Pipeline.ΦA
  rw [scopedRest0_eq]
  simp only [uM, aM, yM, owns_whole]
  try rfl

/-- The invariant as the body finds it. -/
def PhiPre (c : Dev nD) (t : Fin cfg0.N) : sProp 𝕄 :=
  iprop(((if condU (grid0.coords t) = 1#1 then iprop(∃ d, owns (c : Thread nD τ) uM fullShare d) else owns (c : Thread nD τ) uM fullShare (uSpec (wAt m c)))
    ∗ (∃ da, ⌜∀ j : S5x256x4608.Idx, (j 0).val < t.val → da j = aSpec (wAt m c) j⌝ ∗ owns (c : Thread nD τ) aM fullShare da)
    ∗ (if condY (grid0.coords t) = 1#1 then iprop(∃ d, owns (c : Thread nD τ) yM fullShare d) else owns (c : Thread nD τ) yM fullShare (yBef m c t.val t.isLt)))
    ∗ ∃ r, prngReg c r)

theorem owns_some (c : Dev nD) (d : S3x128x512.Idx → Elt F .f32) :
    (owns (c : Thread nD τ) yM fullShare d : sProp 𝕄) ⊢ iprop(∃ d, owns (c : Thread nD τ) yM fullShare d) := by
  iintro H; iexists d; iexact H

theorem Phi_pre (c : Dev nD) (t : Fin cfg0.N) : (dats m 0 c).Φ t.castSucc ⊢ PhiPre m c t := by
  have e : (dats m 0 c).Φ t.castSucc = PhiN m c t.val (Nat.le_of_lt t.isLt) := by
    dsimp only [dats]; exact Pipeline.Dat.Φ_castSucc (PhiN m c) t
  rw [e]
  unfold PhiPre
  obtain ⟨n, h⟩ := t
  cases n with
  | zero =>
    rw [PhiN, PhiA0_eq, if_pos ((condU_iff ⟨0, h⟩).2 rfl), if_pos ((condY_iff ⟨0, h⟩).2 rfl)]
    iintro ⟨⟨Hu, ⟨%da, Ha⟩, Hy⟩, Hg⟩
    isplitl [Hu Ha Hy]
    · isplitl [Hu]; · iexact Hu
      isplitl [Ha]
      · iexists da; isplitr
        · ipureintro; exact fun j hj => absurd hj (Nat.not_lt_zero _)
        iexact Ha
      iexact Hy
    iexact Hg
  | succ n =>
    rw [PhiN, if_neg fun hc => Nat.succ_ne_zero n ((condU_iff ⟨n + 1, h⟩).1 hc)]
    refine sep_mono (sep_mono .rfl (sep_mono .rfl ?_)) .rfl
    split
    · exact owns_some c _
    · rw [yBef]

theorem Phi_post (c : Dev nD) (t : Fin cfg0.N) : (dats m 0 c).Φ t.succ = PhiN m c (t.val + 1) t.isLt := by
  dsimp only [dats]; rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

/-- The result's buffer after the body: written at the last step of a tile, as found at the others. -/
def post3 (c : Dev nD) (t : Fin cfg0.N) : sProp 𝕄 :=
  match cfg0.idle 3 (cfg0.grid.coords t) with
  | true =>
    match (cfg0.win 3).flush t with
    | false => iprop(∃ d, owns (c : Thread nD τ) (win0_3.stage (cfg0.slots t 3)) fullShare ((dats m 0 c).before 3 t d))
    | true => owns (c : Thread nD τ) (win0_3.stage (cfg0.slots t 3)) fullShare ((dats m 0 c).after 3 t)
  | false => owns (c : Thread nD τ) (win0_3.stage (cfg0.slots t 3)) fullShare ((dats m 0 c).after 3 t)

theorem post3_eq (c : Dev nD) (t : Fin cfg0.N) : post3 m c t
    = if k0_cond4 (grid0.coords t) = 1#1 then owns (c : Thread nD τ) (win0_3.stage (cfg0.slots t 3)) fullShare (outOf (yAft m c t.val t.isLt))
      else iprop(∃ d, owns (c : Thread nD τ) (win0_3.stage (cfg0.slots t 3)) fullShare ((dats m 0 c).before 3 t d)) := by
  have hi : cfg0.idle 3 (cfg0.grid.coords t) = !(k0_cond4 (grid0.coords t) == 1#1) := rfl
  unfold post3
  rw [hi]
  by_cases h : k0_cond4 (grid0.coords t) = 1#1
  · rw [if_pos h, beq_iff_eq.2 h, after0_3]
    rfl
  · have hf : (cfg0.win 3).flush t = false := by
      rw [← Bool.not_eq_true, flush0_3]
      exact fun e => h ((cond4_iff t).2 e)
    rw [if_neg h, beq_eq_false_iff_ne.2 h, hf]
    rfl

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ post3 m c t)

theorem aStep_slabs (c : Dev nD) (t : Fin cfg0.N) (da : S5x256x4608.Idx → Elt F .bf16)
    (h : ∀ j : S5x256x4608.Idx, (j 0).val < t.val → da j = aSpec (wAt m c) j) (j : S5x256x4608.Idx) (hj : (j 0).val < t.val + 1) :
    aStep (grid0.coords t) (wAt m c) da j = aSpec (wAt m c) j := by
  have h0 : (j 0).val < 5 := (j 0).isLt
  have h1 := coord1 t
  unfold aStep
  split
  · next hc =>
    have := (cond2_iff t).1 hc
    unfold aPut
    dsimp only
    split
    · rfl
    · exact h j (by omega)
  · next hc =>
    have := mt (cond2_iff t).2 hc
    exact h j (by omega)

theorem sound_body (c : Dev nD) (t : Fin cfg0.N) :
    bodyPre m c t ⊢ wp frame (wpE (defs₀ (F := F)) Variants.none c none) Set.univ (bodyAt0 t) (fun _ => bodyPost m c t) := by
  have hW : condU (grid0.coords t) = 1#1 → wAt m c = wOf (F := F) (iblk m c 0 t : S3x720x128.Idx → Elt F .i8) := by
    intro h
    have h0 : t = ⟨0, by decide⟩ := Fin.ext ((condU_iff t).1 h)
    rw [h0]; rfl
  unfold bodyPre bodyPost
  rw [post3_eq, Phi_post, show (dats m 0 c).owesAt () t.succ = (dats m 0 c).owesAt () t.castSucc from rfl]
  simp only [before0_0, before0_1, before0_2, after0_0, after0_1, after0_2]
  refine (sep_mono (Phi_pre m c t) .rfl).trans ?_
  unfold PhiPre
  iintro ⟨⟨⟨Hu, ⟨%da, %hda, Ha⟩, Hy⟩, Hg⟩, HO, ⟨%d0, H0⟩, ⟨%d1, H1⟩, ⟨%d2, H2⟩, H3⟩
  have hs : ∀ j : S5x256x4608.Idx, (j 0).val = (grid0.coords t 1).val → aStep (grid0.coords t) (wAt m c) da j = aSpec (wAt m c) j := by
    intro j hj
    have h1 := coord1 t
    exact aStep_slabs m c t da hda j (by omega)
  have hX5 : (iprop(∃ d, owns (c : Thread nD τ) (win0_3.stage (cfg0.slots t 3)) fullShare ((dats m 0 c).before 3 t d)) : sProp 𝕄)
      ⊢ iprop(∃ d, owns (c : Thread nD τ) (win0_3.stage (cfg0.slots t 3)) fullShare d) := by
    iintro ⟨%d, H⟩; iexists _; iexact H
  have hrun := kernelRun_wand (F := F) (grid0.coords t) c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))
    (iblk m c 0 t) (iblk m c 1 t) (iblk m c 2 t) (wAt m c) hW da (yBef m c t.val t.isLt) hs _ hX5
  rw [← yAft_eq] at hrun
  iapply (hrun _)
  isplitl [H0 H1 H2 H3 Hu Ha Hy]
  · unfold res
    isplitl [H0]; · iexact H0
    isplitl [H1]; · iexact H1
    isplitl [H2]; · iexact H2
    isplitl [H3]; · iexact H3
    isplitl [Hu]; · iexact Hu
    isplitl [Ha]; · iexact Ha
    iexact Hy
  unfold res
  rw [PhiN]
  iintro %_ ⟨H0, H1, H2, H3, Hu, Ha, Hy⟩
  isplitl [Hu Ha Hy Hg]
  · isplitl [Hu Ha Hy]
    · isplitl [Hu]; · iexact Hu
      isplitl [Ha]
      · iexists _; isplitr
        swap; · iexact Ha
        ipureintro; exact aStep_slabs m c t da hda
      iexact Hy
    iexact Hg
  isplitl [HO]; · iexact HO
  isplitl [H0]; · iexact H0
  isplitl [H1]; · iexact H1
  isplitl [H2]; · iexact H2
  iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

theorem Phi_some (c : Dev nD) (n : ℕ) (h : n + 1 ≤ cfg0.N) : PhiN m c (n + 1) h ⊢ Pipeline.ΦA spec0 c := by
  rw [PhiN, PhiA0_eq]
  iintro ⟨⟨Hu, ⟨%da, %hda, Ha⟩, Hy⟩, Hg⟩
  isplitl [Hu Ha Hy]
  · isplitl [Hu]; · iexists _; iexact Hu
    isplitl [Ha]; · iexists _; iexact Ha
    iexists _; iexact Hy
  iexact Hg

/-! ## The launch -/

set_option backward.isDefEq.respectTransparency.types false in
theorem run_main :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun c => Phi_some m c 49 (by decide))

/-- The frame claim of the idealized program, at any values. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (Pipeline.mem_restRefs_of main_arg0 (by decide) (by decide))).trans (V_main_arg0 m c),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩, h.2⟩) (run_main m ρ)

end Cert.KernelIdeal.Hand
-- ==== Proof.KernelOut.lean ====
/-
  The array the idealized kernel leaves, at every index.
-/
module

public import proofs.«01_k».proof.Proof.Spec
public import proofs.«01_k».proof.Proof.KernelValue
public import proofs.«01_k».proof.Proof.IdealRun
public import Idealize.ShloMosaic.Lib.Pipeline.ValueKit.Geometry
public import Idealize.ShloMosaic.Lib.StableHlo.Run

@[expose] public section

noncomputable section

namespace Cert.KernelIdeal.Hand

open Cert.KernelIdeal Cert.KernelIdeal.Gen Cert.GroupMath
open Idealize.ShloMosaic Idealize.ShloMosaic.TcCoe Idealize.ShloMosaic.Tactic Idealize.ShloMosaic.StableHlo
open Idealize.ShloMosaic.Pipeline (Dat)

set_option maxRecDepth 65536

variable (m : (ℓ : Loc nD τ sig) → Buf (Elt Ideal) ℓ)

/-- The codes, tables and scales as launched. -/
def xs (c : Dev nD) : S3x128x720.Idx → BitVec 8 := m ((c : Thread nD τ).loc main_arg0)
def ts (c : Dev nD) : S1440x16x5120.Idx → BitVec 8 := m ((c : Thread nD τ).loc main_arg1)
def ss (c : Dev nD) : S15x5120.Idx → EReal := m ((c : Thread nD τ).loc main_arg2)

theorem index0 : ∀ t : Fin cfg0.N, win0_0.index t = ![0, 0, 0] := (by decide +kernel : ∀ t : Fin grid0.N, _)
theorem index1 : ∀ t : Fin cfg0.N, win0_1.index t = ![(grid0.coords t 1).val, 0, (grid0.coords t 0).val] := (by decide +kernel : ∀ t : Fin grid0.N, _)
theorem index2 : ∀ t : Fin cfg0.N, win0_2.index t = ![0, (grid0.coords t 0).val] := (by decide +kernel : ∀ t : Fin grid0.N, _)
theorem index3 : ∀ t : Fin cfg0.N, win0_3.index t = ![0, 0, (grid0.coords t 0).val] := (by decide +kernel : ∀ t : Fin grid0.N, _)

theorem V_main_v0 (c : Dev nD) (b : Fin 3) (j : Fin 720) (s : Fin 128) : (V m c main_v0 : S3x720x128.Idx → BitVec 8) (ix3 b j s) = xs m c (ix3 b s j) := by
  have h : (V m c main_v0 : S3x720x128.Idx → BitVec 8) = transpose S3x720x128 [0, 2, 1] (xs m c) transposes_S3x128x720_S3x720x128_0_2_1 := by
    unfold V xs
    after_results
  rw [h]
  pointwise []

theorem cblk (c : Dev nD) (t : Fin cfg0.N) (b : Fin 3) (j : Fin 720) (s : Fin 128) :
    (iblk m c 0 t : S3x720x128.Idx → BitVec 8) (ix3 b j s) = xs m c (ix3 b s j) := by
  rw [← V_main_v0 m c b j s]
  blk_simp [iblk, index0]
  blk_ext [index0]

theorem tblk (c : Dev nD) (t : Fin cfg0.N) (a : Fin 288) (r : Fin 16) (n : Fin 512) :
    (iblk m c 1 t : S288x16x512.Idx → BitVec 8) (ix3 a r n)
      = ts m c (ix3 ⟨288 * (t.val % 5) + a.val, by omega⟩ r ⟨512 * (t.val / 5) + n.val, by have : t.val < 50 := t.isLt; omega⟩) := by
  have e1 := coord1 t
  have e0 := coord0 t
  unfold ts
  rw [← V_main_arg1 m c]
  blk_simp [iblk, index1]
  blk_ext [index1, e1, e0]

theorem sblk (c : Dev nD) (t : Fin cfg0.N) (g : Fin 15) (n : Fin 512) :
    (iblk m c 2 t : S15x512.Idx → EReal) (ix2 g n)
      = ss m c (ix2 g ⟨512 * (t.val / 5) + n.val, by have : t.val < 50 := t.isLt; omega⟩) := by
  have e1 := coord1 t
  have e0 := coord0 t
  unfold ss
  rw [← V_main_arg2 m c]
  blk_simp [iblk, index2]
  blk_ext [index2, e1, e0]

/-- The block's code is the code of the launched bytes. -/
theorem cd_blk (c : Dev nD) (t : Fin cfg0.N) (p : Fin 3) (s : Fin 128) (k : Fin 1440) :
    cd (iblk m c 0 t : S3x720x128.Idx → BitVec 8) p s k = ⟨(Spec.code (xs m c) p s k).toNat, Spec.code_lt (xs m c) p s k⟩ := by
  apply Fin.ext
  show (nib _ p s k).toNat = _
  unfold nib Spec.code
  rw [cblk]

/-- Group `g`'s term, scaled as codebook `p` is. -/
def term (c : Dev nD) (p : Fin 3) (s : Fin 128) (n : Fin 5120) (g : ℕ) : EReal :=
  if h : g < 15 then (((cf p * (Spec.gs (xs m c) (ts m c) p s n ⟨g, h⟩ : ℝ) : ℝ)) : EReal) * ss m c (ix2 ⟨g, h⟩ n) else 0

theorem gterm_eq (c : Dev nD) (t : Fin cfg0.N) (st : Fin 5) (hst : st.val = t.val % 5) (p : Fin 3) (s : Fin 128) (n : Fin 512) (q : Fin 3) :
    gterm (iblk m c 0 ⟨0, by decide⟩) (iblk m c 1 t) (iblk m c 2 t) p st s n q
      = term m c p s ⟨512 * (t.val / 5) + n.val, by have : t.val < 50 := t.isLt; omega⟩ (3 * (t.val % 5) + q.val) := by
  have hg : 3 * (t.val % 5) + q.val < 15 := by omega
  have hsum : gsum (tG (F := Ideal) (iblk m c 1 t) q) (fun j => cd (iblk m c 0 ⟨0, by decide⟩ : S3x720x128.Idx → BitVec 8) p s (sub st q j)) n
      = Spec.gs (xs m c) (ts m c) p s ⟨512 * (t.val / 5) + n.val, by have : t.val < 50 := t.isLt; omega⟩ ⟨3 * (t.val % 5) + q.val, hg⟩ := by
    unfold gsum Spec.gs
    refine Finset.sum_congr rfl fun j _ => ?_
    have hsub : sub st q j = ⟨96 * (3 * (t.val % 5) + q.val) + j.val, by omega⟩ :=
      Fin.ext (by show 288 * st.val + 96 * q.val + j.val = 96 * (3 * (t.val % 5) + q.val) + j.val; omega)
    have hc := cd_blk m c ⟨0, by decide⟩ p s (sub st q j)
    rw [hsub] at hc
    refine (congrArg (fun x => BitVec.toInt (tG (F := Ideal) (iblk m c 1 t) q (ix3 j x n))) (Eq.trans (congrArg _ hsub) hc)).trans ?_
    unfold Spec.entry tG
    refine congrArg BitVec.toInt ?_
    refine (tblk m c t _ _ n).trans (congrArg (ts m c) (congrArg (fun a => ix3 a _ _) (Fin.ext ?_)))
    show 288 * (t.val % 5) + (96 * q.val + j.val) = 96 * (3 * (t.val % 5) + q.val) + j.val
    omega
  unfold gterm term
  rw [dif_pos hg, hsum]
  refine congrArg _ ((congrArg _ (congrArg (fun a => ix2 a n) (Fin.ext ?_))).trans (sblk m c t ⟨3 * (t.val % 5) + q.val, hg⟩ n))
  show 3 * st.val + q.val = 3 * (t.val % 5) + q.val
  omega

/-- One point adds its three groups to what it starts from. -/
theorem yAft_step (c : Dev nD) (t : Fin cfg0.N) (p : Fin 3) (s : Fin 128) (n : Fin 512) (N : Fin 5120) (hN : N.val = 512 * (t.val / 5) + n.val) :
    (yAft m c t.val t.isLt : S3x128x512.Idx → EReal) (ix3 p s n)
      = (if t.val % 5 = 0 then 0 else (yBef m c t.val t.isLt : S3x128x512.Idx → EReal) (ix3 p s n))
        + term m c p s N (3 * (t.val % 5)) + term m c p s N (3 * (t.val % 5) + 1) + term m c p s N (3 * (t.val % 5) + 2) := by
  have hN' : N = ⟨512 * (t.val / 5) + n.val, by have : t.val < 50 := t.isLt; omega⟩ := Fin.ext hN
  rw [yAft_eq, hN']
  unfold yStep wAt
  have hst : ((grid0.coords t 1 : Fin 5)).val = t.val % 5 := coord1 t
  refine (yNext_apply _ _ _ p _ _ s n).trans ?_
  rw [gterm_eq m c t _ hst, gterm_eq m c t _ hst, gterm_eq m c t _ hst]
  refine congrArg (fun a : EReal => a + _ + _ + _) ?_
  by_cases h : t.val % 5 = 0
  · rw [if_pos ((condY_iff t).2 h), if_pos h, pay260_apply]
  · rw [if_neg (fun e => h ((condY_iff t).1 e)), if_neg h]

/-- After a point the accumulator holds the terms of all groups met so far in its tile. -/
theorem yAft_apply (c : Dev nD) (p : Fin 3) (s : Fin 128) (n : Fin 512) : ∀ (k : ℕ) (hk : k < cfg0.N) (N : Fin 5120), N.val = 512 * (k / 5) + n.val →
    (yAft m c k hk : S3x128x512.Idx → EReal) (ix3 p s n) = ∑ g ∈ Finset.range (3 * (k % 5) + 3), term m c p s N g := by
  intro k
  induction k with
  | zero =>
    intro hk N hN
    rw [yAft_step m c ⟨0, hk⟩ p s n N hN]
    simp only [Finset.sum_range_succ, Finset.sum_range_zero, Nat.zero_mod, if_true]
  | succ k ih =>
    intro hk N hN
    rw [yAft_step m c ⟨k + 1, hk⟩ p s n N hN]
    rw [Finset.sum_range_succ, Finset.sum_range_succ, Finset.sum_range_succ]
    refine congrArg (fun a : EReal => a + _ + _ + _) ?_
    dsimp only
    by_cases h : (k + 1) % 5 = 0
    · rw [if_pos h, h]; rfl
    · rw [if_neg h]
      refine (ih (Nat.lt_of_succ_lt hk) N (by omega)).trans ?_
      have : 3 * (k % 5) + 3 = 3 * ((k + 1) % 5) := by omega
      rw [this]

theorem cf_pos (p : Fin 3) : 0 < cf p := by
  fin_cases p <;> norm_num [cf]

/-- The last point of a tile writes the result. -/
theorem out_last (c : Dev nD) (t : Fin cfg0.N) (ht : t.val % 5 = 4) (p : Fin 3) (s : Fin 128) (n : Fin 512) (N : Fin 5120)
    (hN : N.val = 512 * (t.val / 5) + n.val) :
    (outOf (yAft m c t.val t.isLt) : S3x128x512.Idx → EReal) (ix3 p s n) = Spec.out (xs m c) (ts m c) (ss m c) (ix3 p s N) := by
  rw [outOf_apply, yAft_apply m c p s n t.val t.isLt N hN, ht, sum_mul_coe _ _ _ (inv_pos.2 (cf_pos p)).le]
  show ∑ g ∈ Finset.range 15, _ = _
  rw [Finset.sum_range]
  unfold Spec.out
  refine Finset.sum_congr rfl fun g _ => ?_
  unfold term
  rw [dif_pos g.isLt, EReal.coe_mul, mul_right_comm, mul_comm ((cf p : ℝ) : EReal), mul_assoc ((_ : ℝ) : EReal), ← EReal.coe_mul, mul_inv_cancel₀ (cf_pos p).ne', EReal.coe_one, mul_one]
  rfl

theorem flush3 (t : Fin cfg0.N) (h : (cfg0.win 3).flush t = true) : t.val % 5 = 4 := by
  revert t; decide +kernel

theorem final_out (c : Dev nD) : (dats m 0 c).arrAt 3 cfg0.N = (Spec.out (xs m c) (ts m c) (ss m c) : S3x128x5120.Idx → EReal) := by
  refine (dats m 0 c).arrAt_eq_of_covers 3 _ (by decide +kernel) fun t hf y => ?_
  have ht := flush3 t hf
  have e0 := coord0 t
  blk_simp
  rw [after0_3]
  have hy : (y : S3x128x512.Idx) = ix3 (y 0) (y 1) (y 2) := (ix3_eta _).symm
  refine ((congrArg _ hy).trans (out_last m c t ht (y 0) (y 1) (y 2) ⟨512 * (t.val / 5) + (y 2).val, by have : t.val < 50 := t.isLt; have : (y 2).val < 512 := (y 2).isLt; omega⟩ rfl)).trans ?_
  blk_ext [index3, e0]

end Cert.KernelIdeal.Hand
-- ==== Proof.RefValue.lean ====
/-
  The array the reference leaves, at every index.
-/
module

public import proofs.«01_k».proof.Proof.Spec
public import proofs.«01_k».proof.Proof.GroupMath
public import proofs.«01_k».proof.Proof.Gen.ReferenceIdeal.Frame
public import Idealize.ShloMosaic.Lib.Pointwise
public import Idealize.ShloMosaic.Lib.IntMxu
public import Idealize.ShloMosaic.Lib.Pipeline.ValueKit.Geometry
public import Idealize.ShloMosaic.Lib.Pipeline.ValueKit.Acc

@[expose] public section

noncomputable section

namespace Cert.ReferenceIdeal.Hand

open Cert.ReferenceIdeal Cert.ReferenceIdeal.Gen Cert.GroupMath
open Idealize.ShloMosaic Idealize.ShloMosaic.TcCoe Idealize.ShloMosaic.Tactic
open Idealize.ShloMosaic.Pipeline (Dat)

set_option maxRecDepth 65536

abbrev dd : DotDims S15x48x16x5120 S3x128x15x48x16 S15x5120x3x128 := dot_S15x48x16x5120_S3x128x15x48x16_S15x5120x3x128_12_34_3_01_0_2

theorem dot_onehot (L : IVec S15x48x16x5120 8) (R : IVec S3x128x15x48x16 8) (g : Fin 15) (n : Fin 5120) (b : Fin 3) (s : Fin 128) (x : Fin 48 → Fin 16)
    (hR : ∀ j r, R (ix5 b s g j r) = if x j = r then 1#8 else 0#8) :
    dotI8 dd L R (ix4 g n b s) = ∑ j, (L (ix4 g j (x j) n)).toInt := by
  unfold dotI8
  rw [DotDims.sum_contr₂ dd (K₁ := 48) (K₂ := 16) rfl rfl rfl]
  refine Finset.sum_congr rfl fun j _ => ?_
  have hl : ∀ r, DotDims.lhsIdx dd (ix4 g n b s) (DotDims.contrIdx₂ dd (K₁ := 48) (K₂ := 16) rfl rfl rfl j r) = ix4 g j r n := by
    intro r; funext a; fin_cases a <;> rfl
  have hr : ∀ r, DotDims.rhsIdx dd (ix4 g n b s) (DotDims.contrIdx₂ dd (K₁ := 48) (K₂ := 16) rfl rfl rfl j r) = ix5 b s g j r := by
    intro r; funext a; fin_cases a <;> rfl
  rw [Finset.sum_eq_single (x j)]
  · rw [hl, hr, hR, if_pos rfl]; simp
  · intro r _ h
    rw [hr, hR, if_neg (Ne.symm h)]; simp
  · simp

theorem casts : S3x128x720.ShapeCasts S3x128x15x48x1 := by decide

/-- The one-hot rows of the even and of the odd subspaces' codes, and the tables of each. -/
def ohLo (v0 : IVec S3x128x720 8) : IVec S3x128x15x48x16 8 :=
  extui 8 (cmpi .eq (broadcastTo S3x128x15x48x16 (shapeCast S3x128x15x48x1 (andi (extui 32 v0 natLt_8_32) (broadcast S3x128x720 15#32)) casts) broadcasts_S3x128x15x48x1_S3x128x15x48x16)
    (broadcastTo S3x128x15x48x16 (iota .tc S1x1x1x1x16 32 [4] iota_S1x1x1x1x16_d4_w32) broadcasts_S1x1x1x1x16_S3x128x15x48x16)) natLt_1_8
def ohHi (v0 : IVec S3x128x720 8) : IVec S3x128x15x48x16 8 :=
  extui 8 (cmpi .eq (broadcastTo S3x128x15x48x16 (shapeCast S3x128x15x48x1 (shrsi (extui 32 v0 natLt_8_32) (broadcast S3x128x720 4#32)) casts) broadcasts_S3x128x15x48x1_S3x128x15x48x16)
    (broadcastTo S3x128x15x48x16 (iota .tc S1x1x1x1x16 32 [4] iota_S1x1x1x1x16_d4_w32) broadcasts_S1x1x1x1x16_S3x128x15x48x16)) natLt_1_8
def tLo (v20 : IVec S1440x16x5120 8) : IVec S15x48x16x5120 8 :=
  shapeCast S15x48x16x5120 (extractStridedSlice S15x48x1x16x5120 ![0, 0, 0, 0, 0] (shapeCast S15x48x2x16x5120 v20 shapeCasts_S1440x16x5120_S15x48x2x16x5120) slices_S15x48x2x16x5120_o0_0_0_0_0_S15x48x1x16x5120) shapeCasts_S15x48x1x16x5120_S15x48x16x5120
def tHi (v20 : IVec S1440x16x5120 8) : IVec S15x48x16x5120 8 :=
  shapeCast S15x48x16x5120 (extractStridedSlice S15x48x1x16x5120 ![0, 0, 1, 0, 0] (shapeCast S15x48x2x16x5120 v20 shapeCasts_S1440x16x5120_S15x48x2x16x5120) slices_S15x48x2x16x5120_o0_0_1_0_0_S15x48x1x16x5120) shapeCasts_S15x48x1x16x5120_S15x48x16x5120

theorem bitLo : ∀ (c : BitVec 8) (r : Fin 16), BitVec.setWidth 8 (IntOp.cmpi .eq (IntOp.andi (BitVec.setWidth 32 c) 15#32) (BitVec.ofNat 32 r.val))
    = if (c &&& 15#8).toNat = r.val then 1#8 else 0#8 := by decide +kernel
theorem bitHi : ∀ (c : BitVec 8) (r : Fin 16), BitVec.setWidth 8 (IntOp.cmpi .eq (IntOp.shrsi .vector (BitVec.setWidth 32 c) 4#32) (BitVec.ofNat 32 r.val))
    = if (c >>> 4).toNat = r.val then 1#8 else 0#8 := by decide +kernel

theorem code_even (v0 : IVec S3x128x720 8) (b : Fin 3) (s : Fin 128) (g : Fin 15) (j : Fin 48) :
    Spec.code v0 b s ⟨96 * g.val + 2 * j.val, by omega⟩ = v0 (ix3 b s ⟨g.val * 48 + j.val, by omega⟩) &&& 15#8 := by
  unfold Spec.code
  rw [if_pos (by show (96 * g.val + 2 * j.val) % 2 = 0; omega)]
  have e : (96 * g.val + 2 * j.val) / 2 = g.val * 48 + j.val := by omega
  simp only [e]
theorem code_odd (v0 : IVec S3x128x720 8) (b : Fin 3) (s : Fin 128) (g : Fin 15) (j : Fin 48) :
    Spec.code v0 b s ⟨96 * g.val + (2 * j.val + 1), by omega⟩ = v0 (ix3 b s ⟨g.val * 48 + j.val, by omega⟩) >>> 4 := by
  unfold Spec.code
  rw [if_neg (by show ¬ (96 * g.val + (2 * j.val + 1)) % 2 = 0; omega)]
  have e : (96 * g.val + (2 * j.val + 1)) / 2 = g.val * 48 + j.val := by omega
  simp only [e]

theorem dotLo (v0 : IVec S3x128x720 8) (v20 : IVec S1440x16x5120 8) (g : Fin 15) (n : Fin 5120) (b : Fin 3) (s : Fin 128) :
    dotI8 dd (tLo v20) (ohLo v0) (ix4 g n b s) = ∑ j : Fin 48, Spec.entry v0 v20 b s n ⟨96 * g.val + 2 * j.val, by omega⟩ := by
  rw [dot_onehot (tLo v20) (ohLo v0) g n b s (fun j => ⟨(Spec.code v0 b s ⟨96 * g.val + 2 * j.val, by omega⟩).toNat, Spec.code_lt _ _ _ _⟩)]
  · refine Finset.sum_congr rfl fun j _ => ?_
    unfold Spec.entry
    refine congrArg BitVec.toInt ?_
    pointwise [tLo]
    refine congrArg v20 (congrArg (fun a => ix3 a _ n) (Fin.ext ?_))
    show g.val * 96 + j.val * 2 = 96 * g.val + 2 * j.val
    omega
  · intro j r
    pointwise [ohLo]
    rw [bitLo]
    simp only [code_even, Fin.ext_iff]

theorem dotHi (v0 : IVec S3x128x720 8) (v20 : IVec S1440x16x5120 8) (g : Fin 15) (n : Fin 5120) (b : Fin 3) (s : Fin 128) :
    dotI8 dd (tHi v20) (ohHi v0) (ix4 g n b s) = ∑ j : Fin 48, Spec.entry v0 v20 b s n ⟨96 * g.val + (2 * j.val + 1), by omega⟩ := by
  rw [dot_onehot (tHi v20) (ohHi v0) g n b s (fun j => ⟨(Spec.code v0 b s ⟨96 * g.val + (2 * j.val + 1), by omega⟩).toNat, Spec.code_lt _ _ _ _⟩)]
  · refine Finset.sum_congr rfl fun j _ => ?_
    unfold Spec.entry
    refine congrArg BitVec.toInt ?_
    pointwise [tHi]
    refine congrArg v20 (congrArg (fun a => ix3 a _ n) (Fin.ext ?_))
    show g.val * 96 + j.val * 2 + 1 = 96 * g.val + (2 * j.val + 1)
    omega
  · intro j r
    pointwise [ohHi]
    rw [bitHi]
    simp only [code_odd, Fin.ext_iff]

theorem dot_le (L : IVec S15x48x16x5120 8) (R : IVec S3x128x15x48x16 8) (i : S15x5120x3x128.Idx) : (dotI8 dd L R i).natAbs ≤ 768 * 2 ^ 14 :=
  (natAbs_dotI8_le dd L R i).trans ((absDotI8_le_numel dd L R i).trans (by decide))

theorem mm (L : IVec S15x48x16x5120 8) (R : IVec S3x128x15x48x16 8) (i : S15x5120x3x128.Idx) :
    matmulI8 IntMxuNumerics.v7x dd L R (constantI S15x5120x3x128 32 0#32) i = BitVec.ofInt 32 (dotI8 dd L R i) :=
  matmulI8_exact_of_numel _ _ _ _ _ _ rfl (by decide)

/-- The two halves' words add up to the group's sum. -/
theorem word_toInt (v0 : IVec S3x128x720 8) (v20 : IVec S1440x16x5120 8) (g : Fin 15) (n : Fin 5120) (b : Fin 3) (s : Fin 128) :
    (IntOp.addi (matmulI8 IntMxuNumerics.v7x dd (tLo v20) (ohLo v0) (constantI S15x5120x3x128 32 0#32) (ix4 g n b s))
      (matmulI8 IntMxuNumerics.v7x dd (tHi v20) (ohHi v0) (constantI S15x5120x3x128 32 0#32) (ix4 g n b s))).toInt = Spec.gs v0 v20 b s n g := by
  rw [mm, mm]
  have h1 := dot_le (tLo v20) (ohLo v0) (ix4 g n b s)
  have h2 := dot_le (tHi v20) (ohHi v0) (ix4 g n b s)
  have hs : dotI8 dd (tLo v20) (ohLo v0) (ix4 g n b s) + dotI8 dd (tHi v20) (ohHi v0) (ix4 g n b s) = Spec.gs v0 v20 b s n g := by
    rw [dotLo, dotHi]
    unfold Spec.gs
    rw [sum_pairs]
  show (BitVec.ofInt 32 _ + BitVec.ofInt 32 _).toInt = _
  rw [← BitVec.ofInt_add, BitVec.toInt_ofInt, Int.bmod_eq_of_le (by omega) (by omega), hs]

theorem pay_apply (v0 : Vec Ideal S3x128x720 .i8) (v20 : Vec Ideal S1440x16x5120 .i8) (v32 : Vec Ideal S15x5120 .f32) (b : Fin 3) (s : Fin 128) (n : Fin 5120) :
    k0_pay1 (F := Ideal) v0 v20 v32 (ix3 b s n) = Spec.out v0 v20 v32 (ix3 b s n) := by
  pointwise [k0_pay1]
  unfold Spec.out
  refine Finset.sum_congr rfl fun g _ => ?_
  refine (mul_comm _ _).trans (congrArg (fun a : EReal => a * _) ?_)
  have h := word_toInt v0 v20 g n b s
  unfold tLo ohLo tHi ohHi at h
  exact congrArg (fun a : ℤ => ((a : ℝ) : EReal)) h

variable (m : (ℓ : Loc nD τ sig) → Buf (Elt Ideal) ℓ)

/-- The codes, tables and scales as launched. -/
def xs (c : Dev nD) : S3x128x720.Idx → BitVec 8 := m ((c : Thread nD τ).loc main_arg0)
def ts (c : Dev nD) : S1440x16x5120.Idx → BitVec 8 := m ((c : Thread nD τ).loc main_arg1)
def ss (c : Dev nD) : S15x5120.Idx → EReal := m ((c : Thread nD τ).loc main_arg2)

theorem index0 : ∀ t : Fin cfg0.N, win0_0.index t = ![0, 0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0, 0] := (by decide +kernel : ∀ t : Fin grid0.N, _)

theorem blk0 (c : Dev nD) (t : Fin cfg0.N) : (iblk m c 0 t : S3x128x720.Idx → BitVec 8) = xs m c := by
  funext j
  unfold xs
  rw [← V_main_arg0 m c]
  blk_simp [iblk, index0]
  blk_ext [index0]

theorem blk1 (c : Dev nD) (t : Fin cfg0.N) : (iblk m c 1 t : S1440x16x5120.Idx → BitVec 8) = ts m c := by
  funext j
  unfold ts
  rw [← V_main_arg1 m c]
  blk_simp [iblk, index1]
  blk_ext [index1]

theorem blk2 (c : Dev nD) (t : Fin cfg0.N) : (iblk m c 2 t : S15x5120.Idx → EReal) = ss m c := by
  funext j
  unfold ss
  rw [← V_main_arg2 m c]
  blk_simp [iblk, index2]
  blk_ext [index2]

theorem final_out (c : Dev nD) : (dats m 0 c).arrAt 3 cfg0.N = (Spec.out (xs m c) (ts m c) (ss m c) : S3x128x5120.Idx → EReal) := by
  refine (dats m 0 c).arrAt_eq_of_covers 3 _ (by decide +kernel) fun t hf y => ?_
  blk_simp
  rw [after0_3]
  frame_out
  rw [blk0, blk1, blk2]
  have hy : (y : S3x128x5120.Idx) = ix3 (y 0) (y 1) (y 2) := (ix3_eta _).symm
  refine ((congrArg _ hy).trans (pay_apply _ _ _ (y 0) (y 1) (y 2))).trans ?_
  blk_ext [index3]

end Cert.ReferenceIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelOut
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The idealized kernel ends with its result array at the grouped sums of its arguments. -/
theorem kernel_value (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1)
        = Cert.Spec.out (Cert.KernelIdeal.Hand.xs m c) (Cert.KernelIdeal.Hand.ts m c) (Cert.KernelIdeal.Hand.ss m c)) :=
  (θ_run _ _ _).mono (fun r h c => ((h.1 c).1 3).trans (Cert.KernelIdeal.Hand.final_out m c)) (Cert.KernelIdeal.Hand.run_main m g)

/-- The reference ends with its result array at the grouped sums of its arguments. -/
theorem reference_value (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v0)
        = Cert.Spec.out (Cert.ReferenceIdeal.Hand.xs m c) (Cert.ReferenceIdeal.Hand.ts m c) (Cert.ReferenceIdeal.Hand.ss m c)) :=
  (θ_run _ _ _).mono (fun r h c => ((h c).1 3).trans (Cert.ReferenceIdeal.Hand.final_out m c)) (Cert.ReferenceIdeal.Gen.run_main m g)

/-- From agreeing arguments both programs end with the same result. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.Spec.out (Cert.KernelIdeal.Hand.xs m c) (Cert.KernelIdeal.Hand.ts m c) (Cert.KernelIdeal.Hand.ss m c), ?_, ?_⟩
  · exact (θ_run _ _ _).mono (fun r h c => ⟨h.1 c, h.2.1 c⟩) (θ_run_and (kernel_value m g) (Cert.KernelIdeal.Hand.frame_main m g))
  · refine (θ_run _ _ _).mono (fun r h c => ⟨(h.1 c).trans ?_, h.2 c⟩) (θ_run_and (reference_value m' g') (Cert.ReferenceIdeal.Gen.unchanged m' g'))
    have h0 : Cert.ReferenceIdeal.Hand.xs m' c = Cert.KernelIdeal.Hand.xs m c := (hm c).1
    have h1 : Cert.ReferenceIdeal.Hand.ts m' c = Cert.KernelIdeal.Hand.ts m c := (hm c).2.1
    have h2 : Cert.ReferenceIdeal.Hand.ss m' c = Cert.KernelIdeal.Hand.ss m c := (hm c).2.2
    rw [h0, h1, h2]

theorem claim : Cert.Claim := ⟨Cert.Kernel.Gen.facts, Cert.KernelIdeal.Gen.facts, Cert.ReferenceIdeal.Gen.facts,
  fun m g _ => Cert.Kernel.Hand.frame_main m g, fun m g _ => Cert.KernelIdeal.Hand.frame_main m g,
  fun m g _ => Cert.ReferenceIdeal.Gen.frame m g, trivial, algebraic⟩

end Cert.Proof

end
